-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_finite [hPre_weights_finite : Cert.Pre_weights_finite.Facts] (m : (ℓ : Loc Cert.KernelIdeal.nD Cert.KernelIdeal.τ Cert.KernelIdeal.sig) → Buf (Elt Ideal) ℓ) : Prop :=
  ∀ c : Dev Cert.KernelIdeal.nD,
    (Cert.Pre_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_finite [hPre_weights_finite : Cert.Pre_weights_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_weights_finite [hKernelIdeal : Cert.KernelIdeal.Facts] [hPre_weights_finite : Cert.Pre_weights_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_weights_finite [hReferenceIdeal : Cert.ReferenceIdeal.Facts] [hPre_weights_finite : Cert.Pre_weights_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "inv_keep" .f32 0x3F8E38E4#32 ((8388608 / 7549747 : ℝ) : EReal)

def algebraic_KernelIdeal_ReferenceIdeal_pre_weights_finite [hKernelIdeal : Cert.KernelIdeal.Facts] [hReferenceIdeal : Cert.ReferenceIdeal.Facts] [hPre_weights_finite : Cert.Pre_weights_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_weights_finite : Cert.Pre_weights_finite.Facts),
    quiescent_Kernel (hKernel := hKernel)
    ∧ quiescent_KernelIdeal (hKernelIdeal := hKernelIdeal)
    ∧ quiescent_KernelIdeal_pre_weights_finite (hKernelIdeal := hKernelIdeal) (hPre_weights_finite := hPre_weights_finite)
    ∧ quiescent_ReferenceIdeal (hReferenceIdeal := hReferenceIdeal)
    ∧ quiescent_ReferenceIdeal_pre_weights_finite (hReferenceIdeal := hReferenceIdeal) (hPre_weights_finite := hPre_weights_finite)
    ∧ preserves_Kernel_KernelIdeal
    ∧ algebraic_KernelIdeal_ReferenceIdeal_pre_weights_finite (hKernelIdeal := hKernelIdeal) (hReferenceIdeal := hReferenceIdeal) (hPre_weights_finite := hPre_weights_finite)
-- ==== Pre_weights_finite.lean ====
abbrev S8x1025x192 : Shape := ⟨3, ![8, 1025, 192]⟩
abbrev S576x192 : Shape := ⟨2, ![576, 192]⟩
abbrev S192x192 : Shape := ⟨2, ![192, 192]⟩
abbrev S192 : Shape := ⟨1, ![192]⟩
abbrev S768x192 : Shape := ⟨2, ![768, 192]⟩
abbrev S768 : Shape := ⟨1, ![768]⟩
abbrev S192x768 : Shape := ⟨2, ![192, 768]⟩
abbrev S_ : Shape := ⟨0, ![]⟩

class Facts : Prop where
  bcast_S_S576x192 : S_.BroadcastsInDim S576x192 (![] : Fin 0 → Fin S576x192.rank)
  reducesTo_S576x192_S_d0_1 : S576x192.ReducesTo [0, 1] S_
  h_S_ : 0 < S_.numel
  bcast_S_S192 : S_.BroadcastsInDim S192 (![] : Fin 0 → Fin S192.rank)
  reducesTo_S192_S_d0 : S192.ReducesTo [0] S_

variable [Facts]

def fn {F : FTy → Type} [FloatOps F] (main_arg0 : FVec F S8x1025x192 .f32) (main_arg1 : FVec F S576x192 .f32) (main_arg2 : FVec F S192x192 .f32) (main_arg3 : FVec F S192 .f32) (main_arg4 : FVec F S192 .f32) (main_arg5 : FVec F S192 .f32) (main_arg6 : FVec F S192 .f32) (main_arg7 : FVec F S192 .f32) (main_arg8 : FVec F S768x192 .f32) (main_arg9 : FVec F S768 .f32) (main_arg10 : FVec F S192x768 .f32) (main_arg11 : FVec F S192 .f32) : IVec S_ 1 :=
  let main_v0 : FVec F S576x192 .f32 := Host.absf main_arg1
  let main_cst : FVec F S_ .f32 := constant S_ .f32 0x7F800000#32
  let main_v1 : FVec F S576x192 .f32 := broadcastInDim S576x192 ![] bcast_S_S576x192 main_cst
  let main_v2 : IVec S576x192 1 := cmpf .olt main_v0 main_v1
  let main_c : IVec S_ 1 := constantI S_ 1 1#1
  let main_v3 : IVec S_ 1 := (fun x v => Host.reduce IntOp.andi x v reducesTo_S576x192_S_d0_1 h_S_) main_v2 main_c
  let main_v4 : FVec F S192 .f32 := Host.absf main_arg4
  let main_cst_0 : FVec F S_ .f32 := constant S_ .f32 0x7F800000#32
  let main_v5 : FVec F S192 .f32 := broadcastInDim S192 ![] bcast_S_S192 main_cst_0
  let main_v6 : IVec S192 1 := cmpf .olt main_v4 main_v5
  let main_c_1 : IVec S_ 1 := constantI S_ 1 1#1
  let main_v7 : IVec S_ 1 := (fun x v => Host.reduce IntOp.andi x v reducesTo_S192_S_d0 h_S_) main_v6 main_c_1
  let main_v8 : IVec S_ 1 := andi main_v3 main_v7
  let main_v9 : FVec F S192 .f32 := Host.absf main_arg5
  let main_cst_2 : FVec F S_ .f32 := constant S_ .f32 0x7F800000#32
  let main_v10 : FVec F S192 .f32 := broadcastInDim S192 ![] bcast_S_S192 main_cst_2
  let main_v11 : IVec S192 1 := cmpf .olt main_v9 main_v10
  let main_c_3 : IVec S_ 1 := constantI S_ 1 1#1
  let main_v12 : IVec S_ 1 := (fun x v => Host.reduce IntOp.andi x v reducesTo_S192_S_d0 h_S_) main_v11 main_c_3
  let main_v13 : IVec S_ 1 := andi main_v8 main_v12
  main_v13
-- ==== Kernel.lean ====
abbrev S8x1025x192 : Shape := ⟨3, ![8, 1025, 192]⟩
abbrev S576x192 : Shape := ⟨2, ![576, 192]⟩
abbrev S192x192 : Shape := ⟨2, ![192, 192]⟩
abbrev S192 : Shape := ⟨1, ![192]⟩
abbrev S768x192 : Shape := ⟨2, ![768, 192]⟩
abbrev S768 : Shape := ⟨1, ![768]⟩
abbrev S192x768 : Shape := ⟨2, ![192, 768]⟩
abbrev S8x1x192 : Shape := ⟨3, ![8, 1, 192]⟩
abbrev S8x1024x192 : Shape := ⟨3, ![8, 1024, 192]⟩
abbrev S1x192 : Shape := ⟨2, ![1, 192]⟩
abbrev S1x768 : Shape := ⟨2, ![1, 768]⟩
abbrev S8x922x192 : Shape := ⟨3, ![8, 922, 192]⟩
abbrev S1x1x192 : Shape := ⟨3, ![1, 1, 192]⟩
abbrev S1x1024x192 : Shape := ⟨3, ![1, 1024, 192]⟩
abbrev S1x922x192 : Shape := ⟨3, ![1, 922, 192]⟩
abbrev S1024x192 : Shape := ⟨2, ![1024, 192]⟩
abbrev S1x1024 : Shape := ⟨2, ![1, 1024]⟩
abbrev S1024x1 : Shape := ⟨2, ![1024, 1]⟩
abbrev S1024x1024 : Shape := ⟨2, ![1024, 1024]⟩
abbrev S1024 : Shape := ⟨1, ![1024]⟩
abbrev S928x1 : Shape := ⟨2, ![928, 1]⟩
abbrev S928x1024 : Shape := ⟨2, ![928, 1024]⟩
abbrev S928x192 : Shape := ⟨2, ![928, 192]⟩
abbrev S928 : Shape := ⟨1, ![928]⟩
abbrev S928x576 : Shape := ⟨2, ![928, 576]⟩
abbrev S928x16 : Shape := ⟨2, ![928, 16]⟩
abbrev S928x928 : Shape := ⟨2, ![928, 928]⟩
abbrev S928x17 : Shape := ⟨2, ![928, 17]⟩
abbrev S928x768 : Shape := ⟨2, ![928, 768]⟩
abbrev S922x192 : Shape := ⟨2, ![922, 192]⟩

abbrev nBuf : Space → Nat
  | .hbm => 22
  | .vmem => 17
  | .smem => 0
  | _ => 0

abbrev bufTy : (tb : Table) → Fin (tcTables nBuf tb) → BufTy
  | .hbm, ⟨0, _⟩ => ⟨S8x1025x192, .f32⟩
  | .hbm, ⟨1, _⟩ => ⟨S576x192, .f32⟩
  | .hbm, ⟨2, _⟩ => ⟨S192x192, .f32⟩
  | .hbm, ⟨3, _⟩ => ⟨S192, .f32⟩
  | .hbm, ⟨4, _⟩ => ⟨S192, .f32⟩
  | .hbm, ⟨5, _⟩ => ⟨S192, .f32⟩
  | .hbm, ⟨6, _⟩ => ⟨S192, .f32⟩
  | .hbm, ⟨7, _⟩ => ⟨S192, .f32⟩
  | .hbm, ⟨8, _⟩ => ⟨S768x192, .f32⟩
  | .hbm, ⟨9, _⟩ => ⟨S768, .f32⟩
  | .hbm, ⟨10, _⟩ => ⟨S192x768, .f32⟩
  | .hbm, ⟨11, _⟩ => ⟨S192, .f32⟩
  | .hbm, ⟨12, _⟩ => ⟨S8x1x192, .f32⟩
  | .hbm, ⟨13, _⟩ => ⟨S8x1024x192, .f32⟩
  | .hbm, ⟨14, _⟩ => ⟨S1x192, .f32⟩
  | .hbm, ⟨15, _⟩ => ⟨S1x192, .f32⟩
  | .hbm, ⟨16, _⟩ => ⟨S1x192, .f32⟩
  | .hbm, ⟨17, _⟩ => ⟨S1x192, .f32⟩
  | .hbm, ⟨18, _⟩ => ⟨S1x192, .f32⟩
  | .hbm, ⟨19, _⟩ => ⟨S1x768, .f32⟩
  | .hbm, ⟨20, _⟩ => ⟨S1x192, .f32⟩
  | .hbm, ⟨21, _⟩ => ⟨S8x922x192, .f32⟩
  | .local _ .vmem, ⟨0, _⟩ => ⟨S1x1x192, .f32⟩
  | .local _ .vmem, ⟨1, _⟩ => ⟨S1x1x192, .f32⟩
  | .local _ .vmem, ⟨2, _⟩ => ⟨S1x1024x192, .f32⟩
  | .local _ .vmem, ⟨3, _⟩ => ⟨S1x1024x192, .f32⟩
  | .local _ .vmem, ⟨4, _⟩ => ⟨S576x192, .f32⟩
  | .local _ .vmem, ⟨5, _⟩ => ⟨S192x192, .f32⟩
  | .local _ .vmem, ⟨6, _⟩ => ⟨S1x192, .f32⟩
  | .local _ .vmem, ⟨7, _⟩ => ⟨S1x192, .f32⟩
  | .local _ .vmem, ⟨8, _⟩ => ⟨S1x192, .f32⟩
  | .local _ .vmem, ⟨9, _⟩ => ⟨S1x192, .f32⟩
  | .local _ .vmem, ⟨10, _⟩ => ⟨S1x192, .f32⟩
  | .local _ .vmem, ⟨11, _⟩ => ⟨S768x192, .f32⟩
  | .local _ .vmem, ⟨12, _⟩ => ⟨S1x768, .f32⟩
  | .local _ .vmem, ⟨13, _⟩ => ⟨S192x768, .f32⟩
  | .local _ .vmem, ⟨14, _⟩ => ⟨S1x192, .f32⟩
  | .local _ .vmem, ⟨15, _⟩ => ⟨S1x922x192, .f32⟩
  | .local _ .vmem, ⟨16, _⟩ => ⟨S1x922x192, .f32⟩
  | _, _ => ⟨S8x1025x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S576x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768x192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S192x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x192 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x922x192 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
variable {F : FTy → Type} [FloatOps F] [Named F]
def κ : String → Option EReal := fun
  | "inv_keep" => some ((8388608 / 7549747 : ℝ) : EReal)
  | _ => none
-- ==== ReferenceIdeal.lean ====
abbrev S8x1025x192 : Shape := ⟨3, ![8, 1025, 192]⟩
abbrev S576x192 : Shape := ⟨2, ![576, 192]⟩
abbrev S192x192 : Shape := ⟨2, ![192, 192]⟩
abbrev S192 : Shape := ⟨1, ![192]⟩
abbrev S768x192 : Shape := ⟨2, ![768, 192]⟩
abbrev S768 : Shape := ⟨1, ![768]⟩
abbrev S192x768 : Shape := ⟨2, ![192, 768]⟩
abbrev S192x576 : Shape := ⟨2, ![192, 576]⟩
abbrev S8x1025x576 : Shape := ⟨3, ![8, 1025, 576]⟩
abbrev S8x1025x3x12x16 : Shape := ⟨5, ![8, 1025, 3, 12, 16]⟩
abbrev S3x8x12x1025x16 : Shape := ⟨5, ![3, 8, 12, 1025, 16]⟩
abbrev S1x8x12x1025x16 : Shape := ⟨5, ![1, 8, 12, 1025, 16]⟩
abbrev S8x12x1025x16 : Shape := ⟨4, ![8, 12, 1025, 16]⟩
abbrev S8x12x16x1025 : Shape := ⟨4, ![8, 12, 16, 1025]⟩
abbrev S8x12x1025x1025 : Shape := ⟨4, ![8, 12, 1025, 1025]⟩
abbrev S_ : Shape := ⟨0, ![]⟩
abbrev S8x1025x1025 : Shape := ⟨3, ![8, 1025, 1025]⟩
abbrev S8x1x1024 : Shape := ⟨3, ![8, 1, 1024]⟩
abbrev S8x1024 : Shape := ⟨2, ![8, 1024]⟩
abbrev S1024 : Shape := ⟨1, ![1024]⟩
abbrev S8x921 : Shape := ⟨2, ![8, 921]⟩
abbrev S8x1024x192 : Shape := ⟨3, ![8, 1024, 192]⟩
abbrev S8x921x1 : Shape := ⟨3, ![8, 921, 1]⟩
abbrev S1 : Shape := ⟨1, ![1]⟩
abbrev S1x1x1 : Shape := ⟨3, ![1, 1, 1]⟩
abbrev S8x921x192 : Shape := ⟨3, ![8, 921, 192]⟩
abbrev S8x1x192 : Shape := ⟨3, ![8, 1, 192]⟩
abbrev S8x922x192 : Shape := ⟨3, ![8, 922, 192]⟩
abbrev S8x922 : Shape := ⟨2, ![8, 922]⟩
abbrev S8x922x1 : Shape := ⟨3, ![8, 922, 1]⟩
abbrev S1x1x192 : Shape := ⟨3, ![1, 1, 192]⟩
abbrev S8x922x576 : Shape := ⟨3, ![8, 922, 576]⟩
abbrev S8x922x3x12x16 : Shape := ⟨5, ![8, 922, 3, 12, 16]⟩
abbrev S3x8x12x922x16 : Shape := ⟨5, ![3, 8, 12, 922, 16]⟩
abbrev S1x8x12x922x16 : Shape := ⟨5, ![1, 8, 12, 922, 16]⟩
abbrev S8x12x922x16 : Shape := ⟨4, ![8, 12, 922, 16]⟩
abbrev S8x12x16x922 : Shape := ⟨4, ![8, 12, 16, 922]⟩
abbrev S8x12x922x922 : Shape := ⟨4, ![8, 12, 922, 922]⟩
abbrev S8x12x922 : Shape := ⟨3, ![8, 12, 922]⟩
abbrev S8x12x922x1 : Shape := ⟨4, ![8, 12, 922, 1]⟩
abbrev S8x922x12x16 : Shape := ⟨4, ![8, 922, 12, 16]⟩
abbrev S8x922x768 : Shape := ⟨3, ![8, 922, 768]⟩
abbrev S1x1x768 : Shape := ⟨3, ![1, 1, 768]⟩

abbrev nBuf : Space → Nat
  | .hbm => 194
  | .vmem => 0
  | .smem => 0
  | _ => 0

abbrev hbmTy0_0 (i : Nat) : BufTy := match i % 128 with
  | 0 => ⟨S8x1025x192, .f32⟩
  | 1 => ⟨S576x192, .f32⟩
  | 2 => ⟨S192x192, .f32⟩
  | 3 => ⟨S192, .f32⟩
  | 4 => ⟨S192, .f32⟩
  | 5 => ⟨S192, .f32⟩
  | 6 => ⟨S192, .f32⟩
  | 7 => ⟨S192, .f32⟩
  | 8 => ⟨S768x192, .f32⟩
  | 9 => ⟨S768, .f32⟩
  | 10 => ⟨S192x768, .f32⟩
  | 11 => ⟨S192, .f32⟩
  | 12 => ⟨S192x576, .f32⟩
  | 13 => ⟨S8x1025x576, .f32⟩
  | 14 => ⟨S8x1025x3x12x16, .f32⟩
  | 15 => ⟨S3x8x12x1025x16, .f32⟩
  | 16 => ⟨S1x8x12x1025x16, .f32⟩
  | 17 => ⟨S8x12x1025x16, .f32⟩
  | 18 => ⟨S1x8x12x1025x16, .f32⟩
  | 19 => ⟨S8x12x1025x16, .f32⟩
  | 20 => ⟨S8x12x16x1025, .f32⟩
  | 21 => ⟨S8x12x1025x1025, .f32⟩
  | 22 => ⟨S_, .f32⟩
  | 23 => ⟨S8x1025x1025, .f32⟩
  | 24 => ⟨S_, .f32⟩
  | 25 => ⟨S8x1025x1025, .f32⟩
  | 26 => ⟨S8x1025x1025, .f32⟩
  | 27 => ⟨S8x1x1024, .f32⟩
  | 28 => ⟨S8x1024, .f32⟩
  | 29 => ⟨S8x1024, .i32⟩
  | 30 => ⟨S8x1024, .f32⟩
  | 31 => ⟨S8x1024, .i32⟩
  | 32 => ⟨S8x1024, .i32⟩
  | 33 => ⟨S8x1024, .i32⟩
  | 34 => ⟨S8x1024, .i32⟩
  | 35 => ⟨S_, .i32⟩
  | 36 => ⟨S8x1024, .i32⟩
  | 37 => ⟨S8x1024, .i1⟩
  | 38 => ⟨S1024, .i32⟩
  | 39 => ⟨S_, .i32⟩
  | 40 => ⟨S1024, .i32⟩
  | 41 => ⟨S1024, .i32⟩
  | 42 => ⟨S8x1024, .i32⟩
  | 43 => ⟨S8x1024, .i32⟩
  | 44 => ⟨S8x1024, .i32⟩
  | 45 => ⟨S8x1024, .i32⟩
  | 46 => ⟨S8x1024, .i32⟩
  | 47 => ⟨S8x1024, .i32⟩
  | 48 => ⟨S8x921, .i32⟩
  | 49 => ⟨S8x1024x192, .f32⟩
  | 50 => ⟨S8x921x1, .i32⟩
  | 51 => ⟨S_, .i32⟩
  | 52 => ⟨S8x921x1, .i32⟩
  | 53 => ⟨S8x921x1, .i1⟩
  | 54 => ⟨S_, .i32⟩
  | 55 => ⟨S8x921x1, .i32⟩
  | 56 => ⟨S8x921x1, .i32⟩
  | 57 => ⟨S8x921x1, .i32⟩
  | 58 => ⟨S1, .i32⟩
  | 59 => ⟨S_, .i32⟩
  | 60 => ⟨S8x921x1, .i32⟩
  | 61 => ⟨S8x921x1, .i1⟩
  | 62 => ⟨S1x1x1, .i32⟩
  | 63 => ⟨S8x921x1, .i32⟩
  | 64 => ⟨S8x921x1, .i1⟩
  | 65 => ⟨S8x921x1, .i1⟩
  | 66 => ⟨S_, .i1⟩
  | 67 => ⟨S8x921, .i1⟩
  | 68 => ⟨S8x921x192, .f32⟩
  | 69 => ⟨S8x921x192, .i1⟩
  | 70 => ⟨S_, .f32⟩
  | 71 => ⟨S8x921x192, .f32⟩
  | 72 => ⟨S8x921x192, .f32⟩
  | 73 => ⟨S8x1x192, .f32⟩
  | 74 => ⟨S8x922x192, .f32⟩
  | 75 => ⟨S_, .f32⟩
  | 76 => ⟨S8x922x192, .f32⟩
  | 77 => ⟨S8x922x192, .f32⟩
  | 78 => ⟨S_, .f32⟩
  | 79 => ⟨S8x922, .f32⟩
  | 80 => ⟨S8x922x1, .f32⟩
  | 81 => ⟨S_, .f32⟩
  | 82 => ⟨S8x922x1, .f32⟩
  | 83 => ⟨S8x922x1, .f32⟩
  | 84 => ⟨S8x922x192, .f32⟩
  | 85 => ⟨S8x922x192, .f32⟩
  | 86 => ⟨S8x922x192, .f32⟩
  | 87 => ⟨S_, .f32⟩
  | 88 => ⟨S8x922, .f32⟩
  | 89 => ⟨S8x922x1, .f32⟩
  | 90 => ⟨S_, .f32⟩
  | 91 => ⟨S8x922x1, .f32⟩
  | 92 => ⟨S8x922x1, .f32⟩
  | 93 => ⟨S8x922x192, .f32⟩
  | 94 => ⟨S8x922x192, .f32⟩
  | 95 => ⟨S_, .f32⟩
  | 96 => ⟨S8x922x1, .f32⟩
  | 97 => ⟨S8x922x1, .f32⟩
  | 98 => ⟨S8x922x1, .f32⟩
  | 99 => ⟨S8x922x192, .f32⟩
  | 100 => ⟨S8x922x192, .f32⟩
  | 101 => ⟨S1x1x192, .f32⟩
  | 102 => ⟨S8x922x192, .f32⟩
  | 103 => ⟨S8x922x192, .f32⟩
  | 104 => ⟨S1x1x192, .f32⟩
  | 105 => ⟨S8x922x192, .f32⟩
  | 106 => ⟨S8x922x192, .f32⟩
  | 107 => ⟨S192x576, .f32⟩
  | 108 => ⟨S8x922x576, .f32⟩
  | 109 => ⟨S8x922x3x12x16, .f32⟩
  | 110 => ⟨S3x8x12x922x16, .f32⟩
  | 111 => ⟨S1x8x12x922x16, .f32⟩
  | 112 => ⟨S8x12x922x16, .f32⟩
  | 113 => ⟨S1x8x12x922x16, .f32⟩
  | 114 => ⟨S8x12x922x16, .f32⟩
  | 115 => ⟨S1x8x12x922x16, .f32⟩
  | 116 => ⟨S8x12x922x16, .f32⟩
  | 117 => ⟨S8x12x16x922, .f32⟩
  | 118 => ⟨S8x12x922x922, .f32⟩
  | 119 => ⟨S_, .f32⟩
  | 120 => ⟨S8x12x922x922, .f32⟩
  | 121 => ⟨S8x12x922x922, .f32⟩
  | 122 => ⟨S_, .f32⟩
  | 123 => ⟨S8x12x922, .f32⟩
  | 124 => ⟨S_, .f32⟩
  | 125 => ⟨S8x12x922, .f32⟩
  | 126 => ⟨S8x12x922, .f32⟩
  | 127 => ⟨S8x12x922x1, .f32⟩
  | _ => ⟨S8x1025x192, .f32⟩

abbrev hbmTy0_1 (i : Nat) : BufTy := match i % 128 with
  | 0 => ⟨S8x12x922x922, .f32⟩
  | 1 => ⟨S8x12x922x922, .f32⟩
  | 2 => ⟨S8x12x922x922, .f32⟩
  | 3 => ⟨S_, .f32⟩
  | 4 => ⟨S8x12x922, .f32⟩
  | 5 => ⟨S8x12x922x1, .f32⟩
  | 6 => ⟨S8x12x922x922, .f32⟩
  | 7 => ⟨S8x12x922x922, .f32⟩
  | 8 => ⟨S8x12x922x16, .f32⟩
  | 9 => ⟨S8x922x12x16, .f32⟩
  | 10 => ⟨S8x922x192, .f32⟩
  | 11 => ⟨S192x192, .f32⟩
  | 12 => ⟨S8x922x192, .f32⟩
  | 13 => ⟨S1x1x192, .f32⟩
  | 14 => ⟨S8x922x192, .f32⟩
  | 15 => ⟨S8x922x192, .f32⟩
  | 16 => ⟨S8x922x192, .f32⟩
  | 17 => ⟨S_, .f32⟩
  | 18 => ⟨S8x922, .f32⟩
  | 19 => ⟨S8x922x1, .f32⟩
  | 20 => ⟨S_, .f32⟩
  | 21 => ⟨S8x922x1, .f32⟩
  | 22 => ⟨S8x922x1, .f32⟩
  | 23 => ⟨S8x922x192, .f32⟩
  | 24 => ⟨S8x922x192, .f32⟩
  | 25 => ⟨S8x922x192, .f32⟩
  | 26 => ⟨S_, .f32⟩
  | 27 => ⟨S8x922, .f32⟩
  | 28 => ⟨S8x922x1, .f32⟩
  | 29 => ⟨S_, .f32⟩
  | 30 => ⟨S8x922x1, .f32⟩
  | 31 => ⟨S8x922x1, .f32⟩
  | 32 => ⟨S8x922x192, .f32⟩
  | 33 => ⟨S8x922x192, .f32⟩
  | 34 => ⟨S_, .f32⟩
  | 35 => ⟨S8x922x1, .f32⟩
  | 36 => ⟨S8x922x1, .f32⟩
  | 37 => ⟨S8x922x1, .f32⟩
  | 38 => ⟨S8x922x192, .f32⟩
  | 39 => ⟨S8x922x192, .f32⟩
  | 40 => ⟨S1x1x192, .f32⟩
  | 41 => ⟨S8x922x192, .f32⟩
  | 42 => ⟨S8x922x192, .f32⟩
  | 43 => ⟨S1x1x192, .f32⟩
  | 44 => ⟨S8x922x192, .f32⟩
  | 45 => ⟨S8x922x192, .f32⟩
  | 46 => ⟨S192x768, .f32⟩
  | 47 => ⟨S8x922x768, .f32⟩
  | 48 => ⟨S1x1x768, .f32⟩
  | 49 => ⟨S8x922x768, .f32⟩
  | 50 => ⟨S8x922x768, .f32⟩
  | 51 => ⟨S_, .f32⟩
  | 52 => ⟨S8x922x768, .f32⟩
  | 53 => ⟨S8x922x768, .f32⟩
  | 54 => ⟨S8x922x768, .f32⟩
  | 55 => ⟨S_, .f32⟩
  | 56 => ⟨S8x922x768, .f32⟩
  | 57 => ⟨S8x922x768, .f32⟩
  | 58 => ⟨S8x922x768, .f32⟩
  | 59 => ⟨S8x922x768, .f32⟩
  | 60 => ⟨S768x192, .f32⟩
  | 61 => ⟨S8x922x192, .f32⟩
  | 62 => ⟨S1x1x192, .f32⟩
  | 63 => ⟨S8x922x192, .f32⟩
  | 64 => ⟨S8x922x192, .f32⟩
  | 65 => ⟨S8x922x192, .f32⟩
  | _ => ⟨S8x1025x192, .f32⟩

abbrev hbmTy (i : Nat) : BufTy := match i / 128 with
  | 0 => hbmTy0_0 i
  | 1 => hbmTy0_1 i
  | _ => ⟨S8x1025x192, .f32⟩

abbrev bufTy : (tb : Table) → Fin (tcTables nBuf tb) → BufTy
  | .hbm, ⟨i, _⟩ => hbmTy i
  | _, _ => ⟨S8x1025x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call0_v0 : Ref sig .tc := ⟨.hbm, 29, rfl⟩
abbrev main_call0_v1_0 : Ref sig .tc := ⟨.hbm, 30, rfl⟩
abbrev main_v15 : Ref sig .tc := ⟨.hbm, 31, rfl⟩
abbrev main_call1_v0 : Ref sig .tc := ⟨.hbm, 32, rfl⟩
abbrev main_call1_v1_0 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_1 : Ref sig .tc := ⟨.hbm, 39, rfl⟩
abbrev main_v20 : Ref sig .tc := ⟨.hbm, 40, rfl⟩
abbrev main_v21 : Ref sig .tc := ⟨.hbm, 41, rfl⟩
abbrev main_call2_v0 : Ref sig .tc := ⟨.hbm, 42, rfl⟩
abbrev main_call2_v1 : Ref sig .tc := ⟨.hbm, 43, rfl⟩
abbrev main_v22 : Ref sig .tc := ⟨.hbm, 44, rfl⟩
abbrev main_call3_v0 : Ref sig .tc := ⟨.hbm, 45, rfl⟩
abbrev main_call3_v1_0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_call4_c : Ref sig .tc := ⟨.hbm, 51, rfl⟩
abbrev main_call4_v0 : Ref sig .tc := ⟨.hbm, 52, rfl⟩
abbrev main_call4_v1 : Ref sig .tc := ⟨.hbm, 53, rfl⟩
abbrev main_call4_c_0 : Ref sig .tc := ⟨.hbm, 54, rfl⟩
abbrev main_call4_v2 : Ref sig .tc := ⟨.hbm, 55, rfl⟩
abbrev main_call4_v3 : Ref sig .tc := ⟨.hbm, 56, rfl⟩
abbrev main_call4_v4 : Ref sig .tc := ⟨.hbm, 57, rfl⟩
abbrev main_call4_c_1 : Ref sig .tc := ⟨.hbm, 58, rfl⟩
abbrev main_call4_c_2 : Ref sig .tc := ⟨.hbm, 59, rfl⟩
abbrev main_call4_v5 : Ref sig .tc := ⟨.hbm, 60, rfl⟩
abbrev main_call4_v6 : Ref sig .tc := ⟨.hbm, 61, rfl⟩
abbrev main_call4_v7 : Ref sig .tc := ⟨.hbm, 62, rfl⟩
abbrev main_call4_v8 : Ref sig .tc := ⟨.hbm, 63, rfl⟩
abbrev main_call4_v9 : Ref sig .tc := ⟨.hbm, 64, rfl⟩
abbrev main_call4_v10 : Ref sig .tc := ⟨.hbm, 65, rfl⟩
abbrev main_call4_c_3 : Ref sig .tc := ⟨.hbm, 66, rfl⟩
abbrev main_call4_v11 : Ref sig .tc := ⟨.hbm, 67, rfl⟩
abbrev main_call4_v12 : Ref sig .tc := ⟨.hbm, 68, rfl⟩
abbrev main_call4_v13 : Ref sig .tc := ⟨.hbm, 69, rfl⟩
abbrev main_call4_cst : Ref sig .tc := ⟨.hbm, 70, rfl⟩
abbrev main_call4_v14 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_cst_2 : Ref sig .tc := ⟨.hbm, 75, rfl⟩
abbrev main_v30 : Ref sig .tc := ⟨.hbm, 76, rfl⟩
abbrev main_v31 : Ref sig .tc := ⟨.hbm, 77, rfl⟩
abbrev main_cst_3 : Ref sig .tc := ⟨.hbm, 78, rfl⟩
abbrev main_v32 : Ref sig .tc := ⟨.hbm, 79, rfl⟩
abbrev main_v33 : Ref sig .tc := ⟨.hbm, 80, rfl⟩
abbrev main_cst_4 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_cst_5 : Ref sig .tc := ⟨.hbm, 87, rfl⟩
abbrev main_v39 : Ref sig .tc := ⟨.hbm, 88, rfl⟩
abbrev main_v40 : Ref sig .tc := ⟨.hbm, 89, rfl⟩
abbrev main_cst_6 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_cst_7 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_cst_8 : Ref sig .tc := ⟨.hbm, 119, rfl⟩
abbrev main_v68 : Ref sig .tc := ⟨.hbm, 120, rfl⟩
abbrev main_v69 : Ref sig .tc := ⟨.hbm, 121, rfl⟩
abbrev main_cst_9 : Ref sig .tc := ⟨.hbm, 122, rfl⟩
abbrev main_v70 : Ref sig .tc := ⟨.hbm, 123, rfl⟩
abbrev main_cst_10 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_cst_11 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_cst_12 : Ref sig .tc := ⟨.hbm, 145, rfl⟩
abbrev main_v90 : Ref sig .tc := ⟨.hbm, 146, rfl⟩
abbrev main_v91 : Ref sig .tc := ⟨.hbm, 147, rfl⟩
abbrev main_cst_13 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_cst_14 : Ref sig .tc := ⟨.hbm, 154, rfl⟩
abbrev main_v97 : Ref sig .tc := ⟨.hbm, 155, rfl⟩
abbrev main_v98 : Ref sig .tc := ⟨.hbm, 156, rfl⟩
abbrev main_cst_15 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_cst_16 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_cst_17 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_cst_18 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩

abbrev nD : Nat := 1
abbrev τ : Topo := Topo.v7x

variable {F : FTy → Type} [FloatOps F]
-- ==== Proof.Rank.lean ====
/- Stable sorting by a key, in positions: the rank of a position, the permutation a stable sort applies, and
   the positions a mask keeps, read off a sort by (position, or position pushed past the end). -/
module

public import Idealize.ShloMosaic.Lib.SortFacts
public import Mathlib.Order.Fin.Basic
public import Mathlib.Data.Prod.Lex
public import Mathlib.Data.Fintype.Card
public import Mathlib.Data.Finset.Card
public import Mathlib.Order.Interval.Finset.Fin

@[expose] public section

namespace Cert.Rank

open Idealize.ShloMosaic

variable {n : Nat} {κ : Type} [LinearOrder κ]

/-- Position `a` goes before position `b`: a smaller key, or the same key and an earlier position. -/
def Before (key : Fin n → κ) (a b : Fin n) : Prop := key a < key b ∨ (key a = key b ∧ a < b)

instance (key : Fin n → κ) (a b : Fin n) : Decidable (Before key a b) := inferInstanceAs (Decidable (_ ∨ _))

/-- The rank of a position: how many positions go before it. -/
def rank (key : Fin n → κ) (i : Fin n) : Nat := (Finset.univ.filter fun j => Before key j i).card

/-- The comparison a stable sort by the key makes. -/
def lt (key : Fin n → κ) (a b : Fin n) : Bool := decide (key a < key b)

/-- Nothing goes before itself. -/
theorem Before.irrefl (key : Fin n → κ) (a : Fin n) : ¬ Before key a a := by
  rintro (h | ⟨_, h⟩) <;> exact lt_irrefl _ h

/-- Going before is transitive. -/
theorem Before.trans {key : Fin n → κ} {a b c : Fin n} (h₁ : Before key a b) (h₂ : Before key b c) : Before key a c := by
  rcases h₁ with h₁ | ⟨e₁, h₁⟩ <;> rcases h₂ with h₂ | ⟨e₂, h₂⟩
  · exact .inl (h₁.trans h₂)
  · exact .inl (e₂ ▸ h₁)
  · exact .inl (e₁ ▸ h₂)
  · exact .inr ⟨e₁.trans e₂, h₁.trans h₂⟩

/-- Of two different positions one goes before the other. -/
theorem Before.total (key : Fin n → κ) {a b : Fin n} (h : a ≠ b) : Before key a b ∨ Before key b a := by
  rcases lt_trichotomy (key a) (key b) with h₁ | h₁ | h₁
  · exact .inl (.inl h₁)
  · rcases lt_or_gt_of_ne h with h₂ | h₂
    · exact .inl (.inr ⟨h₁, h₂⟩)
    · exact .inr (.inr ⟨h₁.symm, h₂⟩)
  · exact .inr (.inl h₁)

/-- Inserting an earlier position into a list in order keeps the list in order. -/
theorem pairwise_insert (key : Fin n → κ) (a : Fin n) (l : List (Fin n)) (ha : ∀ b ∈ l, a < b)
    (hl : l.Pairwise (Before key)) : (insertBefore (lt key) a l).Pairwise (Before key) := by
  induction l with
  | nil => exact List.pairwise_singleton _ _
  | cons b l ih =>
    have hb := (List.pairwise_cons.mp hl).1
    have hl' := (List.pairwise_cons.mp hl).2
    unfold insertBefore
    by_cases h : lt key b a = true
    · rw [if_pos h]
      refine List.pairwise_cons.mpr ⟨fun x hx => ?_, ih (fun c hc => ha c (List.mem_cons_of_mem _ hc)) hl'⟩
      rcases List.mem_cons.mp ((perm_insertBefore _ a l).mem_iff.mp hx) with e | hx
      · rw [e]; exact .inl (of_decide_eq_true h)
      · exact hb x hx
    · rw [if_neg h]
      have hab : Before key a b := by
        have h' : ¬ key b < key a := fun q => h (decide_eq_true q)
        rcases lt_or_eq_of_le (not_lt.mp h') with q | q
        · exact .inl q
        · exact .inr ⟨q, ha b List.mem_cons_self⟩
      refine List.pairwise_cons.mpr ⟨fun x hx => ?_, hl⟩
      rcases List.mem_cons.mp hx with e | hx
      · rw [e]; exact hab
      · exact hab.trans (hb x hx)

/-- The stable sort of an ascending list of positions is in order. -/
theorem pairwise_sort (key : Fin n → κ) (l : List (Fin n)) (hl : l.Pairwise (· < ·)) :
    (stableSort (lt key) l).Pairwise (Before key) := by
  induction l with
  | nil => exact List.Pairwise.nil
  | cons a l ih =>
    have h := List.pairwise_cons.mp hl
    exact pairwise_insert key a _ (fun b hb => h.1 b ((perm_stableSort _ l).mem_iff.mp hb)) (ih h.2)

/-- The sorting permutation goes along the order. -/
theorem sortedFrom_before (key : Fin n → κ) {i j : Fin n} (h : i < j) :
    Before key (sortedFrom (lt key) i) (sortedFrom (lt key) j) := by
  have hp := pairwise_sort key (List.finRange n) (List.pairwise_lt_finRange n)
  exact (List.pairwise_iff_get.mp hp) _ _ h

/-- The position a stable sort puts at place `k` has rank `k`. -/
theorem rank_sortedFrom (key : Fin n → κ) (k : Fin n) : rank key (sortedFrom (lt key) k) = k.val := by
  have hs := sortedFrom_surjective (lt key)
  have hi := sortedFrom_injective (lt key)
  have : (Finset.univ.filter fun j => Before key j (sortedFrom (lt key) k))
      = (Finset.Iio k).map ⟨sortedFrom (lt key), hi⟩ := by
    ext j
    obtain ⟨m, rfl⟩ := hs j
    simp only [Finset.mem_filter, Finset.mem_univ, true_and, Finset.mem_map, Finset.mem_Iio, Function.Embedding.coeFn_mk]
    constructor
    · intro h
      refine ⟨m, ?_, rfl⟩
      rcases lt_trichotomy m k with q | q | q
      · exact q
      · rw [q] at h; exact absurd h (Before.irrefl key _)
      · exact absurd (h.trans (sortedFrom_before key q)) (Before.irrefl key _)
    · rintro ⟨m', h, e⟩
      rw [← e]
      exact sortedFrom_before key h
  rw [rank, this, Finset.card_map, Fin.card_Iio]

/-- Positions have different ranks. -/
theorem rank_injective (key : Fin n → κ) : Function.Injective (rank key) := fun i j h => by
  obtain ⟨a, rfl⟩ := sortedFrom_surjective (lt key) i
  obtain ⟨b, rfl⟩ := sortedFrom_surjective (lt key) j
  rw [rank_sortedFrom, rank_sortedFrom] at h
  rw [Fin.ext h]

/-- A rank is below the number of positions. -/
theorem rank_lt (key : Fin n → κ) (i : Fin n) : rank key i < n := by
  obtain ⟨a, rfl⟩ := sortedFrom_surjective (lt key) i
  rw [rank_sortedFrom]; exact a.isLt

/-- The position of rank `k` is where the sort's place `k` comes from. -/
theorem sortedFrom_eq (key : Fin n → κ) (k i : Fin n) (h : rank key i = k.val) : sortedFrom (lt key) k = i :=
  rank_injective key ((rank_sortedFrom key k).trans h.symm)

/-- Keys in the same order give the same ranks. -/
theorem rank_congr {κ' : Type} [LinearOrder κ'] (key : Fin n → κ) (key' : Fin n → κ')
    (h : ∀ i j, key i < key j ↔ key' i < key' j) (i : Fin n) : rank key i = rank key' i := by
  unfold rank
  congr 1
  refine Finset.filter_congr fun j _ => ?_
  have he : key j = key i ↔ key' j = key' i := by
    rw [le_antisymm_iff, le_antisymm_iff, ← not_lt, ← not_lt, ← not_lt, ← not_lt, h, h]
  unfold Before
  rw [h, he]

/-- Sorting the positions by where a first sort took them from gives the ranks. -/
theorem sortedFrom_sortedFrom (key : Fin n → κ) (key2 : Fin n → Int)
    (h2 : ∀ k, key2 k = ((sortedFrom (lt key) k).val : Int)) (k : Fin n) :
    (sortedFrom (lt key2) k).val = rank key k := by
  have hs := sortedFrom_surjective (lt key)
  have hi := sortedFrom_injective (lt key)
  have hr : ∀ i, rank key2 i = (sortedFrom (lt key) i).val := fun i => by
    have : (Finset.univ.filter fun j => Before key2 j i).map ⟨sortedFrom (lt key), hi⟩ = Finset.Iio (sortedFrom (lt key) i) := by
      ext j
      obtain ⟨m, rfl⟩ := hs j
      simp only [Finset.mem_map, Finset.mem_filter, Finset.mem_univ, true_and, Finset.mem_Iio, Function.Embedding.coeFn_mk]
      constructor
      · rintro ⟨m', h, e⟩
        rw [← e]
        rcases h with h | ⟨h, h'⟩
        · rw [h2, h2] at h; exact Fin.lt_def.mpr (by exact_mod_cast h)
        · rw [h2, h2] at h
          have : m' = i := hi (Fin.ext (by exact_mod_cast h))
          exact absurd h' (this ▸ lt_irrefl _)
      · intro h
        exact ⟨m, .inl (by rw [h2, h2]; exact_mod_cast Fin.lt_def.mp h), rfl⟩
    rw [rank, ← Finset.card_map ⟨sortedFrom (lt key), hi⟩, this, Fin.card_Iio]
  have h1 := rank_sortedFrom key2 k
  rw [hr] at h1
  have h3 := rank_sortedFrom key (sortedFrom (lt key2) k)
  rw [Fin.ext h1] at h3
  exact h3.symm

/-! ## The kept positions -/

variable (P : Fin n → Prop) [DecidablePred P]

/-- How many kept positions stand before `i`. -/
def keptBefore (i : Fin n) : Nat := (Finset.univ.filter fun j => P j ∧ j < i).card

/-- How many kept positions there are. -/
def keptCount : Nat := (Finset.univ.filter fun j => P j).card

/-- A kept position's own number is its key; another's is pushed past every position. -/
def keptKey (N : Nat) (i : Fin n) : Int := if P i then (i.val : Int) else (i.val : Int) + N

/-- A kept position's rank by that key is how many kept positions stand before it. -/
theorem rank_keptKey {N : Nat} (hN : n ≤ N) (i : Fin n) (h : P i) : rank (keptKey P N) i = keptBefore P i := by
  unfold rank keptBefore
  congr 1
  refine Finset.filter_congr fun j _ => ?_
  have hj := j.isLt
  have hi := i.isLt
  unfold Before keptKey
  rw [if_pos h]
  by_cases hP : P j
  · rw [if_pos hP]
    constructor
    · rintro (q | ⟨q, r⟩)
      · exact ⟨hP, Fin.lt_def.mpr (by omega)⟩
      · exact ⟨hP, r⟩
    · rintro ⟨_, q⟩
      exact .inl (by have := Fin.lt_def.mp q; omega)
  · rw [if_neg hP]
    constructor
    · rintro (q | ⟨q, r⟩) <;> omega
    · rintro ⟨q, _⟩; exact absurd q hP

/-- A position not kept has at least as many before it as are kept. -/
theorem keptCount_le_rank {N : Nat} (hN : n ≤ N) (i : Fin n) (h : ¬ P i) : keptCount P ≤ rank (keptKey P N) i := by
  unfold rank keptCount
  refine Finset.card_le_card fun j hj => ?_
  have hP := (Finset.mem_filter.mp hj).2
  have hj := j.isLt
  refine Finset.mem_filter.mpr ⟨Finset.mem_univ _, .inl ?_⟩
  unfold keptKey
  rw [if_pos hP, if_neg h]
  omega

/-- THE KEPT POSITIONS IN ORDER: for `k` below their number, a position is the sort's `k`-th exactly when it is kept and
    `k` kept positions stand before it. -/
theorem sortedFrom_keptKey_iff {N : Nat} (hN : n ≤ N) (k i : Fin n) (hk : k.val < keptCount P) :
    sortedFrom (lt (keptKey P N)) k = i ↔ P i ∧ keptBefore P i = k.val := by
  constructor
  · rintro rfl
    have hr := rank_sortedFrom (keptKey P N) k
    have hP : P (sortedFrom (lt (keptKey P N)) k) := by
      by_contra h
      have := keptCount_le_rank P hN _ h
      omega
    exact ⟨hP, (rank_keptKey P hN _ hP).symm.trans hr⟩
  · rintro ⟨hP, h⟩
    exact sortedFrom_eq _ _ _ ((rank_keptKey P hN i hP).trans h)

/-- A kept position has fewer kept ones before it than there are. -/
theorem keptBefore_lt (i : Fin n) (h : P i) : keptBefore P i < keptCount P := by
  unfold keptBefore keptCount
  refine Finset.card_lt_card ⟨fun j hj => ?_, fun q => ?_⟩
  · have := (Finset.mem_filter.mp hj).2
    exact Finset.mem_filter.mpr ⟨Finset.mem_univ _, this.1⟩
  · have := q (Finset.mem_filter.mpr ⟨Finset.mem_univ i, h⟩)
    exact lt_irrefl _ (Finset.mem_filter.mp this).2.2

/-- Counting the kept positions up to and including a kept one gives one more than those before it. -/
theorem card_le_eq (i : Fin n) (h : P i) :
    (Finset.univ.filter fun j => P j ∧ j ≤ i).card = keptBefore P i + 1 := by
  have : (Finset.univ.filter fun j => P j ∧ j ≤ i) = insert i (Finset.univ.filter fun j => P j ∧ j < i) := by
    ext j
    simp only [Finset.mem_filter, Finset.mem_univ, true_and, Finset.mem_insert]
    constructor
    · rintro ⟨a, b⟩
      rcases lt_or_eq_of_le b with q | q
      · exact .inr ⟨a, q⟩
      · exact .inl q
    · rintro (rfl | ⟨a, b⟩)
      · exact ⟨h, le_refl _⟩
      · exact ⟨a, le_of_lt b⟩
  rw [this, Finset.card_insert_of_notMem (by simp), keptBefore]

/-- The positions of rank above `c` number `n - (c + 1)`. -/
theorem keptCount_rank (key : Fin n → κ) (c : Nat) : keptCount (fun i => c < rank key i) = n - (c + 1) := by
  unfold keptCount
  have hi := sortedFrom_injective (lt key)
  have hs := sortedFrom_surjective (lt key)
  have h1 : (Finset.univ.filter fun j => c < rank key j)
      = (Finset.univ.filter fun k : Fin n => c < k.val).map ⟨sortedFrom (lt key), hi⟩ := by
    ext j
    obtain ⟨m, rfl⟩ := hs j
    simp only [Finset.mem_filter, Finset.mem_univ, true_and, Finset.mem_map, Function.Embedding.coeFn_mk, rank_sortedFrom]
    exact ⟨fun h => ⟨m, h, rfl⟩, fun ⟨m', h, e⟩ => hi e ▸ h⟩
  rw [h1, Finset.card_map]
  have h2 : ((Finset.univ.filter fun k : Fin n => c < k.val).map Fin.valEmbedding) = Finset.Ico (c + 1) n := by
    ext j
    simp only [Finset.mem_map, Finset.mem_filter, Finset.mem_univ, true_and, Fin.valEmbedding_apply, Finset.mem_Ico]
    exact ⟨fun ⟨k, h, e⟩ => by have := k.isLt; omega, fun h => ⟨⟨j, h.2⟩, h.1, rfl⟩⟩
  rw [← Finset.card_map Fin.valEmbedding, h2, Nat.card_Ico]

end Cert.Rank
-- ==== Proof.Spec.lean ====
/- What the transformer block computes for one batch entry, over the extended reals, as plain functions of plain
   functions: the tokens kept by the class token's attention scores, the layer norms, the attention over the kept
   tokens, the projection and the two-layer perceptron. Both programs are shown to compute this. -/
module

public import proofs.«01_k».proof.Proof.Rank
public import Idealize.ShloMosaic.PureOps.Ideal

@[expose] public section

noncomputable section

namespace Cert.Spec

open Idealize.ShloMosaic

/-- The arguments, the tokens' array cut down to one batch entry: the class token's row, and the other rows. -/
@[ext] structure Args where
  x0 : Fin 192 → EReal
  xr : Fin 1024 → Fin 192 → EReal
  wqkv : Fin 576 → Fin 192 → EReal
  wproj : Fin 192 → Fin 192 → EReal
  bproj : Fin 192 → EReal
  g1 : Fin 192 → EReal
  b1 : Fin 192 → EReal
  g2 : Fin 192 → EReal
  b2 : Fin 192 → EReal
  wfc1 : Fin 768 → Fin 192 → EReal
  bfc1 : Fin 768 → EReal
  wfc2 : Fin 192 → Fin 768 → EReal
  bfc2 : Fin 192 → EReal

/-- The printed 192. -/
abbrev c192 : EReal := Ideal.ofBits .f32 0x43400000#32
/-- The printed variance offset, the f32 nearest to 1e-5. -/
abbrev cEps : EReal := Ideal.ofBits .f32 0x3727C5AC#32
/-- The printed quarter, the attention's scale. -/
abbrev cQuarter : EReal := Ideal.ofBits .f32 0x3E800000#32
/-- The printed half. -/
abbrev cHalf : EReal := Ideal.ofBits .f32 0x3F000000#32
/-- The printed f32 nearest to the square root of one half. -/
abbrev cRootHalf : EReal := Ideal.ofBits .f32 0x3F3504F3#32
/-- The reciprocal of the printed f32 nearest to 0.9. -/
abbrev kappa : EReal := ((8388608 / 7549747 : ℝ) : EReal)

/-- The scores of the tokens after the first, from the class token's row, their rows and the stacked weights: the dot
    product of the class token's query with each token's key, over all heads together. -/
def score (x0 : Fin 192 → EReal) (xr : Fin 1024 → Fin 192 → EReal) (w : Fin 576 → Fin 192 → EReal) (j : Fin 1024) : EReal :=
  ∑ c : Fin 192, (∑ d, x0 d * w ⟨c.val, by omega⟩ d) * (∑ d, xr j d * w ⟨192 + c.val, by omega⟩ d)

/-- A token is kept when more than 102 tokens go before it by score. -/
def Kept (s : Fin 1024 → EReal) (j : Fin 1024) : Prop := 102 < Rank.rank s j

instance (s : Fin 1024 → EReal) : DecidablePred (Kept s) := fun j => inferInstanceAs (Decidable (102 < Rank.rank s j))

/-- The `k`-th kept token. -/
def pick (s : Fin 1024 → EReal) (k : Fin 1024) : Fin 1024 := sortedFrom (Rank.lt (Rank.keptKey (Kept s) 1025)) k

/-- Row `r` of the kept tokens, the class token's row first, before the rescaling. -/
def keptRow (x0 : Fin 192 → EReal) (xr : Fin 1024 → Fin 192 → EReal) (s : Fin 1024 → EReal) (r : Fin 922) (d : Fin 192) : EReal :=
  if r.val = 0 then x0 d else xr (pick s ⟨r.val - 1, by omega⟩) d

/-- The mean of a row. -/
def mean (v : Fin 192 → EReal) : EReal := Ideal.div (∑ d, v d) c192

/-- The variance of a row. -/
def var (v : Fin 192 → EReal) : EReal := Ideal.div (∑ d, (v d - mean v) * (v d - mean v)) c192

/-- The layer norm of a row. -/
def norm (g b : Fin 192 → EReal) (v : Fin 192 → EReal) (d : Fin 192) : EReal :=
  (v d - mean v) * Ideal.rsqrt (var v + cEps) * g d + b d

/-- The Gaussian error linear unit in its error-function form. -/
def gelu (y : EReal) : EReal := cHalf * y * (1 + Ideal.erf (y * cRootHalf))

variable {n : Nat}

/-- The scaled attention scores of the head whose columns start at `o`, between rows `i` and `t`. -/
def att (q : Fin n → Fin 576 → EReal) (o : Nat) (ho : o + 16 ≤ 192) (i t : Fin n) : EReal :=
  ∑ e : Fin 16, q i ⟨o + e.val, by omega⟩ * cQuarter * q t ⟨192 + o + e.val, by omega⟩

/-- Where the head that owns column `c` starts. -/
def start (c : Fin 192) : Nat := 16 * (c.val / 16)

/-- A head's columns lie within the row. -/
theorem start_le (c : Fin 192) : start c + 16 ≤ 192 := by unfold start; omega

/-- The attention's output over the rows, column `c`. -/
def mix (q : Fin n → Fin 576 → EReal) (i : Fin n) (c : Fin 192) : EReal :=
  Ideal.div (∑ t, Ideal.exp (att q (start c) (start_le c) i t) * q t ⟨384 + c.val, by omega⟩)
    (∑ t, Ideal.exp (att q (start c) (start_le c) i t))

namespace Args

variable (A : Args)

/-- The scores. -/
def s (j : Fin 1024) : EReal := score A.x0 A.xr A.wqkv j

/-- The kept tokens, rescaled. -/
def xo (r : Fin 922) (d : Fin 192) : EReal := keptRow A.x0 A.xr A.s r d * kappa

/-- Queries, keys and values of the kept tokens. -/
def qkv (r : Fin 922) (t : Fin 576) : EReal := ∑ d, norm A.g1 A.b1 (A.xo r) d * A.wqkv t d

/-- The tokens after the attention. -/
def x1 (r : Fin 922) (c : Fin 192) : EReal := A.xo r c + (∑ d, mix A.qkv r d * A.wproj c d + A.bproj c)

/-- The perceptron's hidden layer before its nonlinearity. -/
def hid (r : Fin 922) (k : Fin 768) : EReal := ∑ d, norm A.g2 A.b2 (A.x1 r) d * A.wfc1 k d + A.bfc1 k

/-- The block's result. -/
def out (r : Fin 922) (c : Fin 192) : EReal := A.x1 r c + (∑ k, gelu (A.hid r k) * A.wfc2 c k + A.bfc2 c)

end Args

end Cert.Spec

end
-- ==== Proof.Base.lean ====
/- Small facts both readings use: counts as extended reals, the words that carry comparisons and positions, and the
   printed constants as reals. -/
module

public import proofs.«01_k».proof.Proof.Spec
public import Idealize.ShloMosaic.Lib.Pointwise
public import Idealize.ShloMosaic.PureOps.Ideal

@[expose] public section

noncomputable section

namespace Cert.Base

open Idealize.ShloMosaic

/-- The float of a widened bit is one or zero. -/
theorem sitofp_bit (b : Bool) :
    (FloatOps.sitofp (F := Ideal) .f32 (BitVec.setWidth 32 (BitVec.ofBool b)) : EReal) = if b then 1 else 0 := by
  cases b
  · show ((((0#32).toInt : ℤ) : ℝ) : EReal) = 0
    simp
  · show ((((1#32).toInt : ℤ) : ℝ) : EReal) = 1
    simp

/-- The integer a small word reads as. -/
theorem toInt_ofNat (n : Nat) (h : n < 2147483648) : (BitVec.ofNat 32 n).toInt = (n : ℤ) := by
  rw [BitVec.toInt_eq_toNat_of_lt] <;> simp [BitVec.toNat_ofNat] <;> omega

/-- The float of a small word is its number. -/
theorem sitofp_ofNat (n : Nat) (h : n < 2147483648) :
    (FloatOps.sitofp (F := Ideal) .f32 (BitVec.ofNat 32 n) : EReal) = (n : EReal) := by
  show ((((BitVec.ofNat 32 n).toInt : ℤ) : ℝ) : EReal) = (n : EReal)
  rw [toInt_ofNat n h]; simp

/-- Signed less-than of small words. -/
theorem slt_ofNat (a b : Nat) (ha : a < 2147483648) (hb : b < 2147483648) :
    IntOp.cmpi .slt (BitVec.ofNat 32 a) (BitVec.ofNat 32 b) = BitVec.ofBool (decide (a < b)) := by
  show BitVec.ofBool (decide ((BitVec.ofNat 32 a).toInt < (BitVec.ofNat 32 b).toInt)) = _
  rw [toInt_ofNat a ha, toInt_ofNat b hb]; simp

/-- Signed at-most of small words. -/
theorem sle_ofNat (a b : Nat) (ha : a < 2147483648) (hb : b < 2147483648) :
    IntOp.cmpi .sle (BitVec.ofNat 32 a) (BitVec.ofNat 32 b) = BitVec.ofBool (decide (a ≤ b)) := by
  show BitVec.ofBool (decide ((BitVec.ofNat 32 a).toInt ≤ (BitVec.ofNat 32 b).toInt)) = _
  rw [toInt_ofNat a ha, toInt_ofNat b hb]; simp

/-- Signed more-than of small words. -/
theorem sgt_ofNat (a b : Nat) (ha : a < 2147483648) (hb : b < 2147483648) :
    IntOp.cmpi .sgt (BitVec.ofNat 32 a) (BitVec.ofNat 32 b) = BitVec.ofBool (decide (b < a)) := by
  show BitVec.ofBool (decide ((BitVec.ofNat 32 b).toInt < (BitVec.ofNat 32 a).toInt)) = _
  rw [toInt_ofNat a ha, toInt_ofNat b hb]; simp

/-- Signed at-least of small words. -/
theorem sge_ofNat (a b : Nat) (ha : a < 2147483648) (hb : b < 2147483648) :
    IntOp.cmpi .sge (BitVec.ofNat 32 a) (BitVec.ofNat 32 b) = BitVec.ofBool (decide (b ≤ a)) := by
  show BitVec.ofBool (decide ((BitVec.ofNat 32 b).toInt ≤ (BitVec.ofNat 32 a).toInt)) = _
  rw [toInt_ofNat a ha, toInt_ofNat b hb]; simp

/-- The sum of two words of numbers. -/
theorem addi_ofNat (a b : Nat) : IntOp.addi (BitVec.ofNat 32 a) (BitVec.ofNat 32 b) = BitVec.ofNat 32 (a + b) := by
  show BitVec.ofNat 32 a + BitVec.ofNat 32 b = _
  rw [BitVec.ofNat_add]

/-- The conjunction of two bits. -/
theorem andi_bit (a b : Bool) : IntOp.andi (BitVec.ofBool a) (BitVec.ofBool b) = BitVec.ofBool (a && b) := by
  cases a <;> cases b <;> rfl

/-- A selection by a bit. -/
theorem select_bit {α : Type} (b : Bool) (x y : α) : Scalar.select (BitVec.ofBool b) x y = if b then x else y := by
  cases b <;> rfl

/-- A sum of ones and zeros counts the ones. -/
theorem sum_ite {n : Nat} (P : Fin n → Prop) [DecidablePred P] :
    (∑ x, if P x then (1 : EReal) else 0) = (((Finset.univ.filter P).card : ℕ) : EReal) := by
  rw [Finset.sum_boole]

/-- The word of 102. -/
theorem ofBits_102 : Ideal.ofBits .f32 0x42CC0000#32 = ((102 : ℕ) : EReal) := by
  rw [show ((102 : ℕ) : EReal) = ((102 : ℝ) : EReal) by norm_cast]
  simp [Ideal.ofBits, Ideal.ieee, -EReal.coe_mul]; norm_num

/-- The word of one half. -/
theorem ofBits_half : Ideal.ofBits .f32 0x3F000000#32 = ((1 / 2 : ℝ) : EReal) := by
  simp [Ideal.ofBits, Ideal.ieee, -EReal.coe_mul]; norm_num

/-- The word of a quarter. -/
theorem ofBits_quarter : Ideal.ofBits .f32 0x3E800000#32 = ((1 / 4 : ℝ) : EReal) := by
  simp [Ideal.ofBits, Ideal.ieee, -EReal.coe_mul]; norm_num

/-- The word of 12. -/
theorem ofBits_12 : Ideal.ofBits .f32 0x41400000#32 = ((12 : ℝ) : EReal) := by
  simp [Ideal.ofBits, Ideal.ieee, -EReal.coe_mul]; norm_num

/-- The word of 192. -/
theorem ofBits_192 : Ideal.ofBits .f32 0x43400000#32 = ((192 : ℝ) : EReal) := by
  simp [Ideal.ofBits, Ideal.ieee, -EReal.coe_mul]; norm_num

/-- The word nearest to 1e-5. -/
theorem ofBits_eps : Ideal.ofBits .f32 0x3727C5AC#32 = ((10995116 / 1099511627776 : ℝ) : EReal) := by
  simp [Ideal.ofBits, Ideal.ieee, -EReal.coe_mul]; norm_num

/-- The word nearest to 0.9. -/
theorem ofBits_keep : Ideal.ofBits .f32 0x3F666666#32 = ((15099494 / 16777216 : ℝ) : EReal) := by
  simp [Ideal.ofBits, Ideal.ieee, -EReal.coe_mul]; norm_num

end Cert.Base

end
-- ==== Proof.KernelRows.lean ====
/- The kernel's rows of tokens: which tokens its mask keeps, and that row `r` of the rescaled tokens is the class
   token's row or the kept token of that place. -/
module

public import proofs.«01_k».proof.Proof.Gen.KernelIdeal.Frame
public import proofs.«01_k».proof.Proof.Base

@[expose] public section

set_option maxRecDepth 16384

noncomputable section

namespace Cert.KernelIdeal.Read

open Cert.KernelIdeal Cert.KernelIdeal.Gen Idealize.ShloMosaic Cert.Base Cert.Spec

variable (v0 : Vec Ideal S1x1x192 .f32) (v2 : Vec Ideal S1x1024x192 .f32) (v4 : Vec Ideal S576x192 .f32)
  (x0 : Fin 192 → EReal) (xr : Fin 1024 → Fin 192 → EReal) (w : Fin 576 → Fin 192 → EReal)

/-- The mask at a token is one when the token is kept and zero when it is not. -/
theorem pay4_apply (h0 : ∀ d, v0 (ix3 0 0 d) = x0 d) (hr : ∀ j d, v2 (ix3 0 j d) = xr j d)
    (hw : ∀ t d, v4 (ix2 t d) = w t d) (j : Fin 1024) :
    k0_pay4 v0 v2 v4 (ix2 0 j) = if Kept (score x0 xr w) j then 1 else 0 := by
  pointwise [k0_pay4, k0_pay3, k0_pay2]
  simp only [h0, hr, hw]
  have hs : ∀ k : Fin 1024, ∑ c : Fin 192, (∑ d, x0 d * w ⟨c.val, by omega⟩ d) * (∑ d, xr k d * w ⟨192 + c.val, by omega⟩ d)
      = score x0 xr w k := fun _ => rfl
  simp only [hs]
  have hB : ∀ k : Fin 1024, (if score x0 xr w k < score x0 xr w j then (1 : EReal) else
      Scalar.select (IntOp.andi (BitVec.ofBool (decide (score x0 xr w k = score x0 xr w j)))
        (IntOp.cmpi .slt (BitVec.ofNat 32 k.val) (BitVec.ofNat 32 j.val))) 1 0)
      = if Rank.Before (score x0 xr w) k j then 1 else 0 := fun k => by
    rw [slt_ofNat _ _ (by omega) (by omega), andi_bit, select_bit]
    unfold Rank.Before
    by_cases h1 : score x0 xr w k < score x0 xr w j <;> by_cases h2 : score x0 xr w k = score x0 xr w j <;>
      by_cases h3 : k.val < j.val <;> simp [h1, h2, h3, Fin.lt_def]
  simp only [hB]
  rw [sum_ite, ofBits_102, sitofp_bit]
  by_cases hk : Kept (score x0 xr w) j
  · rw [if_pos hk]
    exact if_pos (decide_eq_true (Nat.cast_lt.mpr hk))
  · rw [if_neg hk]
    refine if_neg fun q => hk (Nat.cast_lt.mp (of_decide_eq_true q))

/-- The running count's bit: the number of kept tokens up to `j` is the row's number. -/
theorem pay6_apply (h0 : ∀ d, v0 (ix3 0 0 d) = x0 d) (hr : ∀ j d, v2 (ix3 0 j d) = xr j d)
    (hw : ∀ t d, v4 (ix2 t d) = w t d) (i : Fin 928) (j : Fin 1024) :
    k0_pay6 v0 v2 v4 (ix2 i j)
      = BitVec.ofBool (decide ((Finset.univ.filter fun x => Kept (score x0 xr w) x ∧ x ≤ j).card = i.val)) := by
  pointwise [k0_pay6, k0_pay5]
  simp only [pay4_apply v0 v2 v4 x0 xr w h0 hr hw]
  have hB : ∀ x : Fin 1024, ((if Kept (score x0 xr w) x then (1 : EReal) else 0) *
      FloatOps.sitofp (F := Ideal) .f32 (BitVec.setWidth 32 (IntOp.cmpi .sle (BitVec.ofNat 32 x.val) (BitVec.ofNat 32 j.val))))
      = if Kept (score x0 xr w) x ∧ x ≤ j then 1 else 0 := fun x => by
    rw [sle_ofNat _ _ (by omega) (by omega), sitofp_bit]
    by_cases h1 : Kept (score x0 xr w) x <;> by_cases h2 : x.val ≤ j.val <;> simp [h1, h2, Fin.le_def]
  simp only [hB]
  rw [sum_ite, sitofp_ofNat _ (by omega)]
  simp

/-- A sum with one term that may be there. -/
theorem sum_pick {n : Nat} (P : Fin n → Prop) [DecidablePred P] (f : Fin n → EReal) (k : Fin n) (h : ∀ x, P x ↔ x = k) :
    (∑ x, if P x then f x else 0) = f k := by
  rw [Finset.sum_eq_single k]
  · rw [if_pos ((h k).mpr rfl)]
  · intro b _ hb
    rw [if_neg fun q => hb ((h b).mp q)]
  · intro q; exact absurd (Finset.mem_univ _) q

/-- Which token the row's bit picks: the kept token of the place before the row's number. -/
theorem picked_iff (s : Fin 1024 → EReal) (i : Nat) (h1 : 1 ≤ i) (h2 : i ≤ 921) (x : Fin 1024) :
    ((Finset.univ.filter fun y => Kept s y ∧ y ≤ x).card = i ∧ Kept s x) ↔ x = pick s ⟨i - 1, by omega⟩ := by
  have hc : Rank.keptCount (Kept s) = 921 := Rank.keptCount_rank s 102
  have hk := Rank.sortedFrom_keptKey_iff (P := Kept s) (N := 1025) (by omega) ⟨i - 1, by omega⟩ x
    (by rw [hc]; show i - 1 < 921; omega)
  rw [eq_comm (a := x)]
  unfold pick
  rw [hk]
  constructor
  · rintro ⟨a, b⟩
    rw [Rank.card_le_eq (P := Kept s) x b] at a
    exact ⟨b, by show _ = i - 1; omega⟩
  · rintro ⟨a, b⟩
    rw [Rank.card_le_eq (P := Kept s) x a]
    exact ⟨by have : Rank.keptBefore (Kept s) x = i - 1 := b; omega, a⟩

/-- A row whose number no count of kept tokens reaches picks none. -/
theorem not_picked (s : Fin 1024 → EReal) (i : Nat) (h : i = 0 ∨ 922 ≤ i) (x : Fin 1024) :
    ¬((Finset.univ.filter fun y => Kept s y ∧ y ≤ x).card = i ∧ Kept s x) := by
  rintro ⟨a, b⟩
  have hc : Rank.keptCount (Kept s) = 921 := Rank.keptCount_rank s 102
  have := Rank.keptBefore_lt (P := Kept s) x b
  rw [Rank.card_le_eq (P := Kept s) x b] at a
  omega

/-- Row `i` of the tokens the kernel works on: the rescaled class token and kept tokens, and zero rows after them. -/
theorem pay7_apply (h0 : ∀ d, v0 (ix3 0 0 d) = x0 d) (hr : ∀ j d, v2 (ix3 0 j d) = xr j d)
    (hw : ∀ t d, v4 (ix2 t d) = w t d) (i : Fin 928) (d : Fin 192) :
    k0_pay7 (k0_pay2 v0) (k0_pay3 v2) (k0_pay4 v0 v2 v4) k0_pay5 (k0_pay6 v0 v2 v4) (Scalar.ofBits .f32 0x3F000000#32) (ix2 i d)
      = if h : i.val < 922 then keptRow x0 xr (score x0 xr w) ⟨i.val, h⟩ d * kappa else 0 := by
  pointwise [k0_pay7]
  simp only [pay4_apply v0 v2 v4 x0 xr w h0 hr hw, pay6_apply v0 v2 v4 x0 xr w h0 hr hw]
  have e1 : k0_pay2 v0 (ix2 0 d) = x0 d := by pointwise [k0_pay2]; exact h0 d
  have e3 : ∀ x : Fin 1024, k0_pay3 v2 (ix2 x d) = xr x d := fun x => by pointwise [k0_pay3]; exact hr x d
  have e5 : (k0_pay5 (F := Ideal) (ix2 i 0) : EReal) = (i.val : EReal) := by
    pointwise [k0_pay5]; exact sitofp_ofNat _ (by omega)
  simp only [e1, e3, e5]
  have hB : ∀ x : Fin 1024, Scalar.select
      (IntOp.andi (BitVec.ofBool (decide ((Finset.univ.filter fun y => Kept (score x0 xr w) y ∧ y ≤ x).card = i.val)))
        (BitVec.ofBool (decide (Ideal.ofBits .f32 0x3F000000#32 < if Kept (score x0 xr w) x then 1 else 0)))) (xr x d) 0
      = if (Finset.univ.filter fun y => Kept (score x0 xr w) y ∧ y ≤ x).card = i.val ∧ Kept (score x0 xr w) x then xr x d else 0 :=
    fun x => by
    rw [andi_bit, select_bit, ofBits_half]
    have p1 : ((1 / 2 : ℝ) : EReal) < 1 := by exact_mod_cast (by norm_num : (1 / 2 : ℝ) < 1)
    have p0 : ¬((1 / 2 : ℝ) : EReal) < 0 := by rw [not_lt]; exact_mod_cast (by norm_num : (0 : ℝ) ≤ 1 / 2)
    by_cases hk : Kept (score x0 xr w) x
    · rw [if_pos hk, decide_eq_true p1]; simp [hk]
    · rw [if_neg hk, decide_eq_false p0]; simp [hk]
  simp only [hB]
  rw [sitofp_bit]
  change _ * kappa = _
  by_cases hi : i.val < 922
  · rw [dif_pos hi]
    congr 1
    unfold keptRow
    by_cases h1 : i.val = 0
    · rw [if_pos h1, Finset.sum_eq_zero fun x _ => if_neg (not_picked _ _ (Or.inl h1) x)]
      simp [h1]
    · rw [if_neg h1, sum_pick _ _ _ (picked_iff _ i.val (by omega) (by omega))]
      simp [h1]
  · rw [dif_neg hi, Finset.sum_eq_zero fun x _ => if_neg (not_picked _ _ (Or.inr (by omega)) x)]
    have h1 : i.val ≠ 0 := by omega
    simp [h1]

end Cert.KernelIdeal.Read

end
-- ==== Proof.KernelHeads.lean ====
/- The kernel's attention heads: each writes the masked weighted mean of the values, over its own sixteen columns. -/
module

public import proofs.«01_k».proof.Proof.Gen.KernelIdeal.Frame
public import proofs.«01_k».proof.Proof.Base

@[expose] public section

set_option maxRecDepth 16384

noncomputable section

namespace Cert.KernelIdeal.Read

open Cert.KernelIdeal Cert.KernelIdeal.Gen Idealize.ShloMosaic Cert.Base Cert.Spec

/-- The masked weighted mean of the values of the head whose columns start at `o`, at its column `e`. -/
def headK (q : Fin 928 → Fin 576 → EReal) (m : Fin 928 → EReal) (o : Nat) (ho : o + 16 ≤ 192) (i : Fin 928) (e : Fin 16) : EReal :=
  Ideal.div (∑ t, Ideal.exp (att q o ho i t) * (q t ⟨384 + o + e.val, by omega⟩ * m t))
    (∑ t, Ideal.exp (att q o ho i t) * m t)

/-- The same at a column of the whole row. -/
def mixK (q : Fin 928 → Fin 576 → EReal) (m : Fin 928 → EReal) (i : Fin 928) (c : Fin 192) : EReal :=
  Ideal.div (∑ t, Ideal.exp (att q (start c) (start_le c) i t) * (q t ⟨384 + c.val, by omega⟩ * m t))
    (∑ t, Ideal.exp (att q (start c) (start_le c) i t) * m t)

/-- A head's column is the whole row's column of that place. -/
theorem headK_eq (q : Fin 928 → Fin 576 → EReal) (m : Fin 928 → EReal) (o : Nat) (ho : o + 16 ≤ 192) (i : Fin 928) (e : Fin 16)
    (c : Fin 192) (hd : 16 ∣ o) (hc : c.val = o + e.val) : headK q m o ho i e = mixK q m i c := by
  have hs : start c = o := by unfold start; omega
  have ht : ∀ (o' : Nat) (ho' : o' + 16 ≤ 192), o' = o → ∀ t, att q o ho i t = att q o' ho' i t := by
    rintro _ _ rfl t; rfl
  unfold headK mixK
  simp only [ht _ (start_le c) hs]
  have h3 : (⟨384 + o + e.val, by omega⟩ : Fin 576) = ⟨384 + c.val, by omega⟩ := Fin.ext (by show 384 + o + e.val = 384 + c.val; omega)
  rw [h3]

variable (v85 : FVec Ideal S928x576 .f32) (v90 : FVec Ideal S928x1 .f32) (i : Fin 928) (e : Fin 16)

/-- A stacked array at a row and column. -/
abbrev qOf (v85 : FVec Ideal S928x576 .f32) : Fin 928 → Fin 576 → EReal := fun i c => v85 (ix2 i c)

/-- A mask at a row. -/
abbrev mOf (v90 : FVec Ideal S928x1 .f32) : Fin 928 → EReal := fun t => v90 (ix2 t 0)

/-- Head 0. -/
theorem head0 : k0_pay10 v85 (ix2 i e) = headK (qOf v85) (mOf k0_pay9) 0 (by omega) i e := by
  pointwise [k0_pay10]; simp only [headK, att, Nat.add_zero, Nat.zero_add]

/-- Head 1. -/
theorem head1 : k0_pay11 v85 (ix2 i e) = headK (qOf v85) (mOf k0_pay9) 16 (by omega) i e := by
  pointwise [k0_pay11]; rfl

/-- Head 2. -/
theorem head2 : k0_pay14 (k0_pay12 v85) (k0_pay13 v85) (ix2 i e) = headK (qOf v85) (mOf k0_pay9) 32 (by omega) i e := by
  pointwise [k0_pay14, k0_pay12, k0_pay13]; rfl

/-- Head 3. -/
theorem head3 : k0_pay15 v85 v90 (ix2 i e) = headK (qOf v85) (mOf v90) 48 (by omega) i e := by
  pointwise [k0_pay15]; rfl

/-- Head 4. -/
theorem head4 : k0_pay16 v85 v90 (ix2 i e) = headK (qOf v85) (mOf v90) 64 (by omega) i e := by
  pointwise [k0_pay16]; rfl

/-- Head 5. -/
theorem head5 : k0_pay19 (k0_pay17 v85) (k0_pay18 v85 v90) (ix2 i e) = headK (qOf v85) (mOf v90) 80 (by omega) i e := by
  pointwise [k0_pay19, k0_pay17, k0_pay18]; rfl

/-- Head 6. -/
theorem head6 : k0_pay20 v85 v90 (ix2 i e) = headK (qOf v85) (mOf v90) 96 (by omega) i e := by
  pointwise [k0_pay20]; rfl

/-- Head 7. -/
theorem head7 : k0_pay21 v85 v90 (ix2 i e) = headK (qOf v85) (mOf v90) 112 (by omega) i e := by
  pointwise [k0_pay21]; rfl

/-- Head 8. -/
theorem head8 : k0_pay24 (k0_pay22 v85) (k0_pay23 v85 v90) (ix2 i e) = headK (qOf v85) (mOf v90) 128 (by omega) i e := by
  pointwise [k0_pay24, k0_pay22, k0_pay23]; rfl

/-- Head 9. -/
theorem head9 : k0_pay25 v85 v90 (ix2 i e) = headK (qOf v85) (mOf v90) 144 (by omega) i e := by
  pointwise [k0_pay25]; rfl

/-- Head 10. -/
theorem head10 : k0_pay26 v85 v90 (ix2 i e) = headK (qOf v85) (mOf v90) 160 (by omega) i e := by
  pointwise [k0_pay26]; rfl

/-- Head 11, from its weights and its values with the mask beside them. -/
theorem head11 : Ideal.div (∑ t : Fin 928, k0_pay27 v85 (ix2 i t) * k0_pay28 v85 v90 (ix2 t (⟨e.val, by omega⟩ : Fin 17)))
      (∑ t : Fin 928, k0_pay27 v85 (ix2 i t) * k0_pay28 v85 v90 (ix2 t (16 : Fin 17)))
    = headK (qOf v85) (mOf v90) 176 (by omega) i e := by
  pointwise [k0_pay27, k0_pay28]; rfl

end Cert.KernelIdeal.Read

end
-- ==== Proof.KernelBlock.lean ====
/- What one block of the kernel leaves: the specification's result, from the block's arguments. -/
module

public import proofs.«01_k».proof.Proof.KernelRows
public import proofs.«01_k».proof.Proof.KernelHeads
public import Idealize.ShloMosaic.Lib.Pipeline.Value

@[expose] public section

set_option maxRecDepth 16384

noncomputable section

namespace Cert.KernelIdeal.Read

open Cert.KernelIdeal Cert.KernelIdeal.Gen Idealize.ShloMosaic Cert.Base Cert.Spec

/-- The row mask: one on the rows that hold tokens, zero on the padding rows. -/
theorem pay9_apply (t : Fin 928) : (k0_pay9 (F := Ideal) (ix2 t 0) : EReal) = if t.val < 922 then 1 else 0 := by
  pointwise [k0_pay9]
  rw [show (922#32) = BitVec.ofNat 32 922 from rfl, slt_ofNat _ _ (by omega) (by omega), sitofp_bit]
  simp

/-- A sum that the mask cuts is a sum over the rows that hold tokens. -/
theorem sum_mask (f : Fin 928 → EReal) :
    (∑ t : Fin 928, f t * (if t.val < 922 then (1 : EReal) else 0)) = ∑ t : Fin 922, f ⟨t.val, by omega⟩ := by
  refine (Fin.sum_univ_add (a := 922) (b := 6) fun t => f t * (if t.val < 922 then (1 : EReal) else 0)).trans ?_
  rw [Finset.sum_eq_zero (s := (Finset.univ : Finset (Fin 6)))]
  · rw [add_zero]
    refine Finset.sum_congr rfl fun t _ => ?_
    have : ((Fin.castAdd 6 t : Fin (922 + 6))).val < 922 := t.isLt
    rw [if_pos this, mul_one]; rfl
  · intro t _
    have : ¬((Fin.natAdd 922 t : Fin (922 + 6))).val < 922 := by simp
    rw [if_neg this, mul_zero]

/-- The masked mean over all rows is the mean over the rows that hold tokens. -/
theorem mixK_eq (q : Fin 928 → Fin 576 → EReal) (q' : Fin 922 → Fin 576 → EReal)
    (hq : ∀ (r : Fin 922) t, q ⟨r.val, by omega⟩ t = q' r t) (r : Fin 922) (c : Fin 192) :
    mixK q (fun t => if t.val < 922 then 1 else 0) ⟨r.val, by omega⟩ c = mix q' r c := by
  unfold mixK mix
  simp only [← mul_assoc]
  rw [sum_mask, sum_mask]
  simp only [hq, att]

/-- A choice is `x` when either branch is, where it is taken. -/
theorem dite_eq_of {α : Type} {p : Prop} [Decidable p] {a : p → α} {b : ¬p → α} {x : α} (h1 : ∀ h, a h = x) (h2 : ∀ h, b h = x) :
    dite p a b = x := by
  by_cases h : p
  · rw [dif_pos h, h1 h]
  · rw [dif_neg h, h2 h]

set_option maxHeartbeats 1000000 in
/-- The twelve heads side by side. -/
theorem heads_apply (p0 p1 p2 p3 p4 p5 p6 p7 p8 p9 p10 p11 : FVec Ideal S928x16 .f32) (G : Fin 928 → Fin 192 → EReal)
    (h0 : ∀ i e (c : Fin 192), c.val = 0 + e.val → p0 (ix2 i e) = G i c)
    (h1 : ∀ i e (c : Fin 192), c.val = 16 + e.val → p1 (ix2 i e) = G i c)
    (h2 : ∀ i e (c : Fin 192), c.val = 32 + e.val → p2 (ix2 i e) = G i c)
    (h3 : ∀ i e (c : Fin 192), c.val = 48 + e.val → p3 (ix2 i e) = G i c)
    (h4 : ∀ i e (c : Fin 192), c.val = 64 + e.val → p4 (ix2 i e) = G i c)
    (h5 : ∀ i e (c : Fin 192), c.val = 80 + e.val → p5 (ix2 i e) = G i c)
    (h6 : ∀ i e (c : Fin 192), c.val = 96 + e.val → p6 (ix2 i e) = G i c)
    (h7 : ∀ i e (c : Fin 192), c.val = 112 + e.val → p7 (ix2 i e) = G i c)
    (h8 : ∀ i e (c : Fin 192), c.val = 128 + e.val → p8 (ix2 i e) = G i c)
    (h9 : ∀ i e (c : Fin 192), c.val = 144 + e.val → p9 (ix2 i e) = G i c)
    (h10 : ∀ i e (c : Fin 192), c.val = 160 + e.val → p10 (ix2 i e) = G i c)
    (h11 : ∀ i e (c : Fin 192), c.val = 176 + e.val → p11 (ix2 i e) = G i c)
    (i : Fin 928) (c : Fin 192) :
    concatenate S928x192 1 [⟨S928x16, p0⟩, ⟨S928x16, p1⟩, ⟨S928x16, p2⟩, ⟨S928x16, p3⟩, ⟨S928x16, p4⟩, ⟨S928x16, p5⟩, ⟨S928x16, p6⟩,
      ⟨S928x16, p7⟩, ⟨S928x16, p8⟩, ⟨S928x16, p9⟩, ⟨S928x16, p10⟩, ⟨S928x16, p11⟩]
      Facts₀.concatenates_S928x16_S928x16_S928x16_S928x16_S928x16_S928x16_S928x16_S928x16_S928x16_S928x16_S928x16_S928x16_S928x192_d1
      (ix2 i c) = G i c := by
  pointwise []
  have hc := c.isLt
  refine dite_eq_of (fun k0 => h0 _ _ _ ?_) fun k0 => ?_
  · show c.val = 0 +  (c.val)
    omega
  refine dite_eq_of (fun k1 => h1 _ _ _ ?_) fun k1 => ?_
  · show c.val = 16 +  (c.val - 16)
    omega
  refine dite_eq_of (fun k2 => h2 _ _ _ ?_) fun k2 => ?_
  · show c.val = 32 +  (c.val - 16 - 16)
    omega
  refine dite_eq_of (fun k3 => h3 _ _ _ ?_) fun k3 => ?_
  · show c.val = 48 +  (c.val - 16 - 16 - 16)
    omega
  refine dite_eq_of (fun k4 => h4 _ _ _ ?_) fun k4 => ?_
  · show c.val = 64 +  (c.val - 16 - 16 - 16 - 16)
    omega
  refine dite_eq_of (fun k5 => h5 _ _ _ ?_) fun k5 => ?_
  · show c.val = 80 +  (c.val - 16 - 16 - 16 - 16 - 16)
    omega
  refine dite_eq_of (fun k6 => h6 _ _ _ ?_) fun k6 => ?_
  · show c.val = 96 +  (c.val - 16 - 16 - 16 - 16 - 16 - 16)
    omega
  refine dite_eq_of (fun k7 => h7 _ _ _ ?_) fun k7 => ?_
  · show c.val = 112 +  (c.val - 16 - 16 - 16 - 16 - 16 - 16 - 16)
    omega
  refine dite_eq_of (fun k8 => h8 _ _ _ ?_) fun k8 => ?_
  · show c.val = 128 +  (c.val - 16 - 16 - 16 - 16 - 16 - 16 - 16 - 16)
    omega
  refine dite_eq_of (fun k9 => h9 _ _ _ ?_) fun k9 => ?_
  · show c.val = 144 +  (c.val - 16 - 16 - 16 - 16 - 16 - 16 - 16 - 16 - 16)
    omega
  refine dite_eq_of (fun k10 => h10 _ _ _ ?_) fun k10 => ?_
  · show c.val = 160 +  (c.val - 16 - 16 - 16 - 16 - 16 - 16 - 16 - 16 - 16 - 16)
    omega
  refine h11 _ _ _ ?_
  show c.val = 176 + (c.val - 16 - 16 - 16 - 16 - 16 - 16 - 16 - 16 - 16 - 16 - 16)
  omega

/-- The tokens after the attention, at a row: the row's token, the projected heads and the bias. -/
theorem pay29_apply (v58 : FVec Ideal S928x192 .f32) (p0 p1 p2 p3 p4 p5 p6 p7 p8 p9 p10 : FVec Ideal S928x16 .f32)
    (v285 : FVec Ideal S928x928 .bf16) (v289 : FVec Ideal S928x17 .bf16) (v296 : Vec Ideal S192x192 .f32) (v298 : Vec Ideal S1x192 .f32)
    (G : Fin 928 → Fin 192 → EReal)
    (h0 : ∀ i e (c : Fin 192), c.val = 0 + e.val → p0 (ix2 i e) = G i c)
    (h1 : ∀ i e (c : Fin 192), c.val = 16 + e.val → p1 (ix2 i e) = G i c)
    (h2 : ∀ i e (c : Fin 192), c.val = 32 + e.val → p2 (ix2 i e) = G i c)
    (h3 : ∀ i e (c : Fin 192), c.val = 48 + e.val → p3 (ix2 i e) = G i c)
    (h4 : ∀ i e (c : Fin 192), c.val = 64 + e.val → p4 (ix2 i e) = G i c)
    (h5 : ∀ i e (c : Fin 192), c.val = 80 + e.val → p5 (ix2 i e) = G i c)
    (h6 : ∀ i e (c : Fin 192), c.val = 96 + e.val → p6 (ix2 i e) = G i c)
    (h7 : ∀ i e (c : Fin 192), c.val = 112 + e.val → p7 (ix2 i e) = G i c)
    (h8 : ∀ i e (c : Fin 192), c.val = 128 + e.val → p8 (ix2 i e) = G i c)
    (h9 : ∀ i e (c : Fin 192), c.val = 144 + e.val → p9 (ix2 i e) = G i c)
    (h10 : ∀ i e (c : Fin 192), c.val = 160 + e.val → p10 (ix2 i e) = G i c)
    (h11 : ∀ i (e : Fin 16) (c : Fin 192), c.val = 176 + e.val →
      Ideal.div (∑ t : Fin 928, v285 (ix2 i t) * v289 (ix2 t (⟨e.val, by omega⟩ : Fin 17)))
        (∑ t : Fin 928, v285 (ix2 i t) * v289 (ix2 t (16 : Fin 17))) = G i c)
    (i : Fin 928) (c : Fin 192) :
    k0_pay29 v58 p0 p1 p2 p3 p4 p5 p6 p7 p8 p9 p10 v285 v289 v296 v298 (ix2 i c)
      = v58 (ix2 i c) + (∑ d, G i d * v296 (ix2 c d) + v298 (ix2 0 c)) := by
  unfold k0_pay29
  generalize hX : concatenate _ _ _ _ = X
  have hx : ∀ i c, X (ix2 i c) = G i c := fun i c => by
    rw [← hX]
    refine heads_apply _ _ _ _ _ _ _ _ _ _ _ _ G h0 h1 h2 h3 h4 h5 h6 h7 h8 h9 h10 (fun i e c hc => ?_) i c
    rw [← h11 i e c hc]
    pointwise []
  clear hX
  pointwise []
  simp only [hx]

/-- The stacked queries, keys and values of a row of tokens. -/
theorem pay8_apply (v1 : FVec Ideal S1x192 .f32) (v3 : FVec Ideal S1024x192 .f32) (v4 : Vec Ideal S576x192 .f32)
    (v31 : FVec Ideal S1x1024 .f32) (v37 : FVec Ideal S928x1 .f32) (v40 : IVec S928x1024 1) (cst : Ideal .f32)
    (v59 v61 : Vec Ideal S1x192 .f32) (g b : Fin 192 → EReal) (w : Fin 576 → Fin 192 → EReal)
    (hg : ∀ d, v59 (ix2 0 d) = g d) (hb : ∀ d, v61 (ix2 0 d) = b d) (hw : ∀ t d, v4 (ix2 t d) = w t d) (i : Fin 928) (t : Fin 576) :
    k0_pay8 v1 v3 v4 v31 v37 v40 cst v59 v61 (ix2 i t)
      = ∑ d, norm g b (fun d => k0_pay7 v1 v3 v31 v37 v40 cst (ix2 i d)) d * w t d := by
  pointwise [k0_pay8]
  simp only [hg, hb, hw]
  rfl

/-- The perceptron's hidden layer before its bias, from the tokens after the attention. -/
theorem pay30_apply (v58 : FVec Ideal S928x192 .f32) (p0 p1 p2 p3 p4 p5 p6 p7 p8 p9 p10 : FVec Ideal S928x16 .f32)
    (v285 : FVec Ideal S928x928 .bf16) (v289 : FVec Ideal S928x17 .bf16) (v296 : Vec Ideal S192x192 .f32)
    (v298 v303 v305 : Vec Ideal S1x192 .f32) (v329 : Vec Ideal S768x192 .f32)
    (g b : Fin 192 → EReal) (w : Fin 768 → Fin 192 → EReal)
    (hg : ∀ d, v303 (ix2 0 d) = g d) (hb : ∀ d, v305 (ix2 0 d) = b d) (hw : ∀ t d, v329 (ix2 t d) = w t d) (i : Fin 928) (k : Fin 768) :
    k0_pay30 v58 p0 p1 p2 p3 p4 p5 p6 p7 p8 p9 p10 v285 v289 v296 v298 v303 v305 v329 (ix2 i k)
      = ∑ d, norm g b (fun d => k0_pay29 v58 p0 p1 p2 p3 p4 p5 p6 p7 p8 p9 p10 v285 v289 v296 v298 (ix2 i d)) d * w k d := by
  unfold k0_pay30
  generalize k0_pay29 v58 p0 p1 p2 p3 p4 p5 p6 p7 p8 p9 p10 v285 v289 v296 v298 = X
  pointwise []
  simp only [hg, hb, hw]
  rfl

/-- The result of a row, from the tokens after the attention and the hidden layer. -/
theorem pay1_apply (v302 : FVec Ideal S928x192 .f32) (v330 : FVec Ideal S928x768 .f32) (v331 : Vec Ideal S1x768 .f32)
    (v343 : Vec Ideal S192x768 .f32) (v345 : Vec Ideal S1x192 .f32) (r : Fin 922) (c : Fin 192) :
    k0_pay1 v302 v330 v331 v343 v345 (ix3 0 r c)
      = v302 (ix2 ⟨r.val, by omega⟩ c)
        + (∑ k, gelu (v330 (ix2 ⟨r.val, by omega⟩ k) + v331 (ix2 0 k)) * v343 (ix2 c k) + v345 (ix2 0 c)) := by
  pointwise [k0_pay1]
  rfl

/-- The tokens after the attention, from the tokens and their stacked queries, keys and values. -/
theorem attended_apply (v58 : FVec Ideal S928x192 .f32) (v85 : FVec Ideal S928x576 .f32) (v296 : Vec Ideal S192x192 .f32)
    (v298 : Vec Ideal S1x192 .f32) (i : Fin 928) (c : Fin 192) :
    k0_pay29 v58 (k0_pay10 v85) (k0_pay11 v85) (k0_pay14 (k0_pay12 v85) (k0_pay13 v85)) (k0_pay15 v85 k0_pay9) (k0_pay16 v85 k0_pay9)
      (k0_pay19 (k0_pay17 v85) (k0_pay18 v85 k0_pay9)) (k0_pay20 v85 k0_pay9) (k0_pay21 v85 k0_pay9)
      (k0_pay24 (k0_pay22 v85) (k0_pay23 v85 k0_pay9)) (k0_pay25 v85 k0_pay9) (k0_pay26 v85 k0_pay9) (k0_pay27 v85)
      (k0_pay28 v85 k0_pay9) v296 v298 (ix2 i c)
      = v58 (ix2 i c) + (∑ d, mixK (qOf v85) (fun t => if t.val < 922 then 1 else 0) i d * v296 (ix2 c d) + v298 (ix2 0 c)) := by
  have hm : (fun t : Fin 928 => if t.val < 922 then (1 : EReal) else 0) = mOf k0_pay9 := funext fun t => (pay9_apply t).symm
  rw [hm]
  refine pay29_apply _ _ _ _ _ _ _ _ _ _ _ _ _ _ _ _ (mixK (qOf v85) (mOf k0_pay9)) ?_ ?_ ?_ ?_ ?_ ?_ ?_ ?_ ?_ ?_ ?_ ?_ i c
  · exact fun i e c h => (head0 v85 i e).trans (headK_eq _ _ _ _ _ _ _ (by omega) h)
  · exact fun i e c h => (head1 v85 i e).trans (headK_eq _ _ _ _ _ _ _ (by omega) h)
  · exact fun i e c h => (head2 v85 i e).trans (headK_eq _ _ _ _ _ _ _ (by omega) h)
  · exact fun i e c h => (head3 v85 _ i e).trans (headK_eq _ _ _ _ _ _ _ (by omega) h)
  · exact fun i e c h => (head4 v85 _ i e).trans (headK_eq _ _ _ _ _ _ _ (by omega) h)
  · exact fun i e c h => (head5 v85 _ i e).trans (headK_eq _ _ _ _ _ _ _ (by omega) h)
  · exact fun i e c h => (head6 v85 _ i e).trans (headK_eq _ _ _ _ _ _ _ (by omega) h)
  · exact fun i e c h => (head7 v85 _ i e).trans (headK_eq _ _ _ _ _ _ _ (by omega) h)
  · exact fun i e c h => (head8 v85 _ i e).trans (headK_eq _ _ _ _ _ _ _ (by omega) h)
  · exact fun i e c h => (head9 v85 _ i e).trans (headK_eq _ _ _ _ _ _ _ (by omega) h)
  · exact fun i e c h => (head10 v85 _ i e).trans (headK_eq _ _ _ _ _ _ _ (by omega) h)
  · exact fun i e c h => (head11 v85 _ i e).trans (headK_eq _ _ _ _ _ _ _ (by omega) h)

/-- The arguments a block's input buffers hold. -/
def argsOf (x0 : Vec Ideal S1x1x192 .f32) (x1 : Vec Ideal S1x1024x192 .f32) (x2 : Vec Ideal S576x192 .f32)
    (x3 : Vec Ideal S192x192 .f32) (x4 x5 x6 x7 x8 : Vec Ideal S1x192 .f32) (x9 : Vec Ideal S768x192 .f32)
    (x10 : Vec Ideal S1x768 .f32) (x11 : Vec Ideal S192x768 .f32) (x12 : Vec Ideal S1x192 .f32) : Args where
  x0 d := x0 (ix3 0 0 d)
  xr j d := x1 (ix3 0 j d)
  wqkv t d := x2 (ix2 t d)
  wproj t d := x3 (ix2 t d)
  bproj d := x4 (ix2 0 d)
  g1 d := x5 (ix2 0 d)
  b1 d := x6 (ix2 0 d)
  g2 d := x7 (ix2 0 d)
  b2 d := x8 (ix2 0 d)
  wfc1 t d := x9 (ix2 t d)
  bfc1 d := x10 (ix2 0 d)
  wfc2 t d := x11 (ix2 t d)
  bfc2 d := x12 (ix2 0 d)

/-- What one block writes, at every row and column, is the specification's result at the block's arguments. -/
theorem out_apply (x0 : Vec Ideal S1x1x192 .f32) (x1 : Vec Ideal S1x1024x192 .f32) (x2 : Vec Ideal S576x192 .f32)
    (x3 : Vec Ideal S192x192 .f32) (x4 x5 x6 x7 x8 : Vec Ideal S1x192 .f32) (x9 : Vec Ideal S768x192 .f32)
    (x10 : Vec Ideal S1x768 .f32) (x11 : Vec Ideal S192x768 .f32) (x12 : Vec Ideal S1x192 .f32) (r : Fin 922) (c : Fin 192) :
    out0_13 x0 x1 x2 x3 x4 x5 x6 x7 x8 x9 x10 x11 x12 (ix3 0 r c)
      = (argsOf x0 x1 x2 x3 x4 x5 x6 x7 x8 x9 x10 x11 x12).out r c := by
  have l0 : View.ld x0 r0_0 = x0 := View.ld_unit_zero (by decide) _ _
  have l1 : View.ld x1 r0_1 = x1 := View.ld_unit_zero (by decide) _ _
  have l2 : View.ld x2 r0_2 = x2 := View.ld_unit_zero (by decide) _ _
  have l3 : ∀ x : Vec Ideal S1x192 .f32, View.ld x r0_3 = x := fun x => View.ld_unit_zero (by decide) _ _
  have l4 : View.ld x3 r0_4 = x3 := View.ld_unit_zero (by decide) _ _
  have l5 : View.ld x9 r0_5 = x9 := View.ld_unit_zero (by decide) _ _
  have l6 : View.ld x10 r0_6 = x10 := View.ld_unit_zero (by decide) _ _
  have l7 : View.ld x11 r0_7 = x11 := View.ld_unit_zero (by decide) _ _
  unfold_out out0_13
  rw [View.canon_cons_unit_zero (by decide)]
  rw [l0, l1, l2, l4, l5, l6, l7, l3, l3, l3, l3, l3, l3]
  set A := argsOf x0 x1 x2 x3 x4 x5 x6 x7 x8 x9 x10 x11 x12 with hA
  set v58 := k0_pay7 (k0_pay2 x0) (k0_pay3 x1) (k0_pay4 x0 x1 x2) k0_pay5 (k0_pay6 x0 x1 x2) (Scalar.ofBits .f32 0x3F000000#32) with h58
  set v85 := k0_pay8 (k0_pay2 x0) (k0_pay3 x1) x2 (k0_pay4 x0 x1 x2) k0_pay5 (k0_pay6 x0 x1 x2) (Scalar.ofBits .f32 0x3F000000#32) x5 x6 with h85
  have e58 : ∀ (r : Fin 922) d, v58 (ix2 ⟨r.val, by omega⟩ d) = A.xo r d := fun r d => by
    rw [h58, pay7_apply x0 x1 x2 A.x0 A.xr A.wqkv (fun _ => rfl) (fun _ _ => rfl) (fun _ _ => rfl), dif_pos r.isLt]; rfl
  have e85 : ∀ (r : Fin 922) t, v85 (ix2 ⟨r.val, by omega⟩ t) = A.qkv r t := fun r t => by
    rw [h85, pay8_apply _ _ _ _ _ _ _ _ _ A.g1 A.b1 A.wqkv (fun _ => rfl) (fun _ => rfl) (fun _ _ => rfl), ← h58]
    simp only [e58]; rfl
  have e29 : ∀ (r : Fin 922) c, _ = A.x1 r c := fun r c =>
    (attended_apply v58 v85 x3 x4 ⟨r.val, by omega⟩ c).trans (by
      rw [e58]
      simp only [mixK_eq (qOf v85) A.qkv e85 r]
      rfl)
  rw [pay1_apply, e29]
  simp only [pay30_apply _ _ _ _ _ _ _ _ _ _ _ _ _ _ _ _ _ _ _ A.g2 A.b2 A.wfc1 (fun _ => rfl) (fun _ => rfl) (fun _ _ => rfl), e29]
  rfl

end Cert.KernelIdeal.Read

end
-- ==== Proof.Whole.lean ====
/- The arguments as whole arrays, cut down to one batch entry, and the whole result. -/
module

public import proofs.«01_k».proof.Proof.Spec
public import Idealize.ShloMosaic.Lib.Pointwise

@[expose] public section

noncomputable section

namespace Cert.Spec

open Idealize.ShloMosaic

/-- A float array of extended reals, by its extents. -/
abbrev Arr1 (a : Nat) : Type := (⟨1, ![a]⟩ : Shape).Idx → EReal
/-- The same of two axes. -/
abbrev Arr2 (a b : Nat) : Type := (⟨2, ![a, b]⟩ : Shape).Idx → EReal
/-- The same of three axes. -/
abbrev Arr3 (a b c : Nat) : Type := (⟨3, ![a, b, c]⟩ : Shape).Idx → EReal

/-- The arguments at batch entry `b`: the class token is the first of the entry's tokens. -/
def argsAt (x : Arr3 8 1025 192) (wqkv : Arr2 576 192) (wproj : Arr2 192 192) (bproj g1 b1 g2 b2 : Arr1 192) (wfc1 : Arr2 768 192)
    (bfc1 : Arr1 768) (wfc2 : Arr2 192 768) (bfc2 : Arr1 192) (b : Fin 8) : Args where
  x0 d := x (ix3 b 0 d)
  xr j d := x (ix3 b ⟨1 + j.val, by omega⟩ d)
  wqkv t d := wqkv (ix2 t d)
  wproj t d := wproj (ix2 t d)
  bproj d := bproj (ix1 d)
  g1 d := g1 (ix1 d)
  b1 d := b1 (ix1 d)
  g2 d := g2 (ix1 d)
  b2 d := b2 (ix1 d)
  wfc1 t d := wfc1 (ix2 t d)
  bfc1 d := bfc1 (ix1 d)
  wfc2 t d := wfc2 (ix2 t d)
  bfc2 d := bfc2 (ix1 d)

/-- The whole result. -/
def whole (x : Arr3 8 1025 192) (wqkv : Arr2 576 192) (wproj : Arr2 192 192) (bproj g1 b1 g2 b2 : Arr1 192) (wfc1 : Arr2 768 192)
    (bfc1 : Arr1 768) (wfc2 : Arr2 192 768) (bfc2 : Arr1 192) : Arr3 8 922 192 :=
  fun j => (argsAt x wqkv wproj bproj g1 b1 g2 b2 wfc1 bfc1 wfc2 bfc2 (j 0)).out (j 1) (j 2)

end Cert.Spec

end
-- ==== Proof.KernelArray.lean ====
/- The kernel's result array holds the specification's result at the launched arguments. -/
module

public import proofs.«01_k».proof.Proof.KernelBlock
public import proofs.«01_k».proof.Proof.Whole
public import proofs.«01_k».proof.Proof.Gen.KernelIdeal.Value
public import Idealize.ShloMosaic.Lib.Claim
public import Idealize.ShloMosaic.Lib.Pipeline.ValueKit

@[expose] public section

set_option maxRecDepth 16384

noncomputable section

namespace Cert.KernelIdeal.Read

open Cert.KernelIdeal Cert.KernelIdeal.Gen Idealize.ShloMosaic Idealize.ShloMosaic.TcCoe Cert.Spec

variable (m : (ℓ : Loc nD τ sig) → Buf (Elt Ideal) ℓ) (c : Dev nD)

/-- Window 0's block at point `t` is block `t` along the batch. -/
theorem idx0 : ∀ t : Fin cfg0.N, win0_0.index t = ![t.val, 0, 0] :=
  (by decide +kernel : ∀ t : Fin grid0.N, win0_0.index t = ![t.val, 0, 0])

/-- So is window 1's. -/
theorem idx1 : ∀ t : Fin cfg0.N, win0_1.index t = ![t.val, 0, 0] :=
  (by decide +kernel : ∀ t : Fin grid0.N, win0_1.index t = ![t.val, 0, 0])

/-- So is the result window's. -/
theorem idx13 : ∀ t : Fin cfg0.N, win0_13.index t = ![t.val, 0, 0] :=
  (by decide +kernel : ∀ t : Fin grid0.N, win0_13.index t = ![t.val, 0, 0])

/-- The block a point reads of the class tokens' rows. -/
theorem blk0 (t : Fin cfg0.N) (d : Fin 192) :
    iblk m c 0 t (ix3 0 0 d) = m ((c : Thread nD τ).loc main_arg0) (ix3 (⟨t.val, t.isLt⟩ : Fin 8) 0 d) := by
  unfold iblk
  entry_read
  show m (c, Proc.tc.devRef main_arg0) _ = m (c, Proc.tc.devRef main_arg0) _
  refine congrArg _ (funext fun a => Fin.ext ?_)
  fin_cases a <;> blk_simp [idx0]
  · show t.val * 1 = t.val; omega
  · rfl
  · show 0 * 192 + d.val = d.val; omega

/-- The block a point reads of the other tokens' rows. -/
theorem blk1 (t : Fin cfg0.N) (j : Fin 1024) (d : Fin 192) :
    iblk m c 1 t (ix3 0 j d) = m ((c : Thread nD τ).loc main_arg0) (ix3 (⟨t.val, t.isLt⟩ : Fin 8) ⟨1 + j.val, by omega⟩ d) := by
  unfold iblk
  entry_read
  show m (c, Proc.tc.devRef main_arg0) _ = m (c, Proc.tc.devRef main_arg0) _
  refine congrArg _ (funext fun a => Fin.ext ?_)
  fin_cases a <;> blk_simp [idx1]
  · show t.val * 1 = t.val; omega
  · show 1 + (0 * 1024 + j.val) = 1 + j.val; omega
  · show 0 * 192 + d.val = d.val; omega

/-- The windows of the weights and the rows read at block zero. -/
theorem idxW : ∀ t : Fin cfg0.N, win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] :=
  (by decide +kernel : ∀ t : Fin grid0.N, win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0])

/-- A pair of zeros is zero at each place. -/
theorem pair_zero (a : Fin 2) : (![0, 0] : Fin 2 → ℕ) a = 0 := by fin_cases a <;> rfl

/-- A vector's one row, at an index of that row. -/
theorem row192 (X : S192.Idx → EReal) (j : S1x192.Idx) (d : Fin 192) (h : ∀ a, (j a : ℕ) = (ix2 (0 : Fin 1) d : S1x192.Idx) a) :
    shapeCast S1x192 X shapeCasts_S192_S1x192 j = X (ix1 d) := by
  obtain rfl : j = ix2 0 d := funext fun a => Fin.ext (h a)
  pointwise []

/-- The same of the hidden layer's bias. -/
theorem row768 (X : S768.Idx → EReal) (j : S1x768.Idx) (d : Fin 768) (h : ∀ a, (j a : ℕ) = (ix2 (0 : Fin 1) d : S1x768.Idx) a) :
    shapeCast S1x768 X shapeCasts_S768_S1x768 j = X (ix1 d) := by
  obtain rfl : j = ix2 0 d := funext fun a => Fin.ext (h a)
  pointwise []

/-- An index map that is a pair of zeros is zero on every axis. -/
theorem at_zero {f : Fin 2 → ℕ} (h : f = ![0, 0]) (a : Fin 2) : f a = 0 := (congrFun h a).trans (pair_zero a)

open Pipeline.Window (rect_emb_val_of_index_zero)

/-- The arguments that a point's input blocks hold are the launched arguments at the point's batch entry. -/
theorem args_eq (t : Fin cfg0.N) :
    argsOf (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t)
    = argsAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (⟨t.val, t.isLt⟩ : Fin 8) := by
  obtain ⟨i2, i3, i4, i5, i6, i7, i8, i9, i10, i11, i12⟩ := idxW t
  refine Args.ext ?_ ?_ ?_ ?_ ?_ ?_ ?_ ?_ ?_ ?_ ?_ ?_ ?_ <;> dsimp only [argsOf, argsAt]
  · exact funext fun d => blk0 m c t d
  · exact funext₂ fun j d => blk1 m c t j d
  · refine funext₂ fun i d => ?_
    unfold iblk; entry_read
    exact congrArg (m (c, Proc.tc.devRef main_arg1)) (funext fun a => Fin.ext (rect_emb_val_of_index_zero win0_2 t a (at_zero i2 a) (ix2 i d)))
  · refine funext₂ fun i d => ?_
    unfold iblk; entry_read
    exact congrArg (m (c, Proc.tc.devRef main_arg2)) (funext fun a => Fin.ext (rect_emb_val_of_index_zero win0_3 t a (at_zero i3 a) (ix2 i d)))
  · refine funext fun d => ?_
    unfold iblk; entry_read
    exact row192 _ _ d fun a => rect_emb_val_of_index_zero win0_4 t a (at_zero i4 a) (ix2 0 d)
  · refine funext fun d => ?_
    unfold iblk; entry_read
    exact row192 _ _ d fun a => rect_emb_val_of_index_zero win0_5 t a (at_zero i5 a) (ix2 0 d)
  · refine funext fun d => ?_
    unfold iblk; entry_read
    exact row192 _ _ d fun a => rect_emb_val_of_index_zero win0_6 t a (at_zero i6 a) (ix2 0 d)
  · refine funext fun d => ?_
    unfold iblk; entry_read
    exact row192 _ _ d fun a => rect_emb_val_of_index_zero win0_7 t a (at_zero i7 a) (ix2 0 d)
  · refine funext fun d => ?_
    unfold iblk; entry_read
    exact row192 _ _ d fun a => rect_emb_val_of_index_zero win0_8 t a (at_zero i8 a) (ix2 0 d)
  · refine funext₂ fun i d => ?_
    unfold iblk; entry_read
    exact congrArg (m (c, Proc.tc.devRef main_arg8)) (funext fun a => Fin.ext (rect_emb_val_of_index_zero win0_9 t a (at_zero i9 a) (ix2 i d)))
  · refine funext fun d => ?_
    unfold iblk; entry_read
    exact row768 _ _ d fun a => rect_emb_val_of_index_zero win0_10 t a (at_zero i10 a) (ix2 0 d)
  · refine funext₂ fun i d => ?_
    unfold iblk; entry_read
    exact congrArg (m (c, Proc.tc.devRef main_arg10)) (funext fun a => Fin.ext (rect_emb_val_of_index_zero win0_11 t a (at_zero i11 a) (ix2 i d)))
  · refine funext fun d => ?_
    unfold iblk; entry_read
    exact row192 _ _ d fun a => rect_emb_val_of_index_zero win0_12 t a (at_zero i12 a) (ix2 0 d)

/-- The result array. -/
theorem array_eq : (dats m 0 c).arrAt 13 cfg0.N
    = whole (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  refine (dats m 0 c).arrAt_eq_of_covers 13 _ (by decide +kernel) fun t hf y => ?_
  blk_simp
  rw [after0_13]
  obtain ⟨r, hr⟩ : ∃ r : Fin 922, r = y 1 := ⟨_, rfl⟩
  obtain ⟨d, hd⟩ : ∃ d : Fin 192, d = y 2 := ⟨_, rfl⟩
  have hy : y = (ix3 0 r d : S1x922x192.Idx) := by
    refine funext fun a => Fin.ext ?_
    fin_cases a
    · show (y 0 : ℕ) = 0
      have : (y 0 : ℕ) < 1 := (y 0).isLt
      omega
    · show (y 1 : ℕ) = r.val; rw [hr]
    · show (y 2 : ℕ) = d.val; rw [hd]
  subst hy
  refine (out_apply _ _ _ _ _ _ _ _ _ _ _ _ _ r d).trans ?_
  rw [args_eq]
  have e : (win0_13.blk t).view.emb (ix3 0 r d) = (ix3 (⟨t.val, t.isLt⟩ : Fin 8) r d : S8x922x192.Idx) := by
    refine funext fun a => Fin.ext ?_
    fin_cases a <;> blk_simp [idx13] <;> rfl
  rw [e]
  rfl

end Cert.KernelIdeal.Read

end
-- ==== Proof.RefSort.lean ====
/- The reference's choice of tokens: its scores are a twelfth of the specification's, its two sorts of positions give
   the ranks, and its sort of keys lists the kept tokens in order. -/
module

public import proofs.«01_k».proof.Proof.Gen.ReferenceIdeal.Run
public import proofs.«01_k».proof.Proof.Base
public import proofs.«01_k».proof.Proof.Whole
public import Idealize.ShloMosaic.Lib.Tactic.CleanTypes

@[expose] public section

set_option maxRecDepth 16384

noncomputable section

namespace Cert.ReferenceIdeal.Read

open Cert.ReferenceIdeal Cert.ReferenceIdeal.Gen Cert.ReferenceIdeal.Value Idealize.ShloMosaic Cert.Base Cert.Spec

/-- A sum over heads and columns of a head is a sum over columns. -/
theorem sum_heads (f : Fin 192 → EReal) :
    (∑ h : Fin 12, ∑ e : Fin 16, f ⟨h.val * 16 + e.val, by omega⟩) = ∑ c, f c := by
  rw [← Fintype.sum_prod_type' (f := fun (h : Fin 12) (e : Fin 16) => f ⟨h.val * 16 + e.val, by omega⟩)]
  refine Fintype.sum_equiv (finProdFinEquiv (m := 12) (n := 16)) _ _ fun p => ?_
  refine congrArg f (Fin.ext ?_)
  show p.1.val * 16 + p.2.val = p.2.val + 16 * p.1.val
  omega

/-- Dividing by twelve keeps the order. -/
theorem div12_lt (x y : EReal) : Ideal.div x ((12 : ℝ) : EReal) < Ideal.div y ((12 : ℝ) : EReal) ↔ x < y := by
  rw [Ideal.div_coe (by norm_num), Ideal.div_coe (by norm_num)]
  have back : ∀ z : EReal, z * ((1 / 12 : ℝ) : EReal) * ((12 : ℝ) : EReal) = z := fun z => by
    rw [mul_assoc, ← EReal.coe_mul]; norm_num
  have p : (0 : EReal) ≤ ((1 / 12 : ℝ) : EReal) := by exact_mod_cast (by norm_num : (0 : ℝ) ≤ 1 / 12)
  have q : (0 : EReal) ≤ ((12 : ℝ) : EReal) := by exact_mod_cast (by norm_num : (0 : ℝ) ≤ 12)
  rw [← not_le, ← not_le, not_iff_not]
  constructor
  · intro h
    have := mul_le_mul_of_nonneg_right h q
    rwa [back, back] at this
  · intro h
    exact mul_le_mul_of_nonneg_right h p

/-- A sort of pairs along the second axis, at a place: the second array at the position that place comes from. -/
theorem sort2_apply {α β : Type} (cmp : α × β → α × β → BitVec 1) (x : S8x1024.Idx → α) (y : S8x1024.Idx → β) (b : Fin 8) (k : Fin 1024) :
    (Host.sort2 S8x1024 1 cmp x y).2 (ix2 b k)
      = y (ix2 b (sortedFrom (fun i i' => cmp (x (ix2 b i), y (ix2 b i)) (x (ix2 b i'), y (ix2 b i')) == 1#1) k)) := by
  have h1 : 1 < S8x1024.rank := by decide
  have ha : (fun i : Fin 1024 => (Shape.Idx.along (s := S8x1024) (ix2 b k) ⟨1, h1⟩ i : S8x1024.Idx))
      = fun i : Fin 1024 => (ix2 b i : S8x1024.Idx) := by
    funext i a
    fin_cases a <;> rfl
  unfold Host.sort2
  rw [dif_pos h1]
  exact congrArg (fun g : Fin 1024 → S8x1024.Idx =>
    y (g (sortedFrom (fun i i' => cmp (x (g i), y (g i)) (x (g i'), y (g i')) == 1#1) k))) ha

/-- The comparison of floats is the order, whatever rides along. -/
theorem cmp_f (x y : EReal) (i j : BitVec 32) : (comparator_f32_i32_d1 (F := Ideal) (x, i) (y, j) == 1#1) = decide (x < y) := by
  have canon : ∀ z : EReal, Scalar.select (FloatOps.cmpf (F := Ideal) (φ := .f32) .une z z) (FloatOps.ofBits (F := Ideal) .f32 0x7FC00000#32)
      (Scalar.select (FloatOps.cmpf (F := Ideal) (φ := .f32) .oeq z (FloatOps.ofBits (F := Ideal) .f32 0x00000000#32))
        (FloatOps.ofBits (F := Ideal) .f32 0x00000000#32) z) = z := fun z => by
    have h1 : FloatOps.cmpf (F := Ideal) (φ := .f32) .une z z = BitVec.ofBool false := by
      show BitVec.ofBool (decide (z ≠ z)) = _
      simp
    have h0 : FloatOps.ofBits (F := Ideal) .f32 0x00000000#32 = (0 : EReal) := Ideal.ofBits_zero_f32
    rw [h1, select_bit, h0]
    show (if false = true then _ else Scalar.select (BitVec.ofBool (decide (z = 0))) 0 z) = z
    rw [select_bit]
    by_cases h : z = 0 <;> simp [h]
  show (FloatOps.cmpfTotal (F := Ideal) (φ := .f32) .lt _ _ == 1#1) = _
  rw [canon, canon]
  show (BitVec.ofBool (decide (x < y)) == 1#1) = _
  cases decide (x < y) <;> rfl

/-- The comparison of words is the order of the integers they read as. -/
theorem cmp_i (x y i j : BitVec 32) : (comparator_i32_i32_d1 (x, i) (y, j) == 1#1) = decide (x.toInt < y.toInt) := by
  show (BitVec.ofBool (decide (x.toInt < y.toInt)) == 1#1) = _
  cases decide (x.toInt < y.toInt) <;> rfl

variable (V0 : Valuation τ sig (Elt Ideal))

/-- The arguments at a batch entry. -/
def argsV (b : Fin 8) : Args :=
  argsAt (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8))
    (V0 (Proc.devRef .tc main_arg9)) (V0 (Proc.devRef .tc main_arg10)) (V0 (Proc.devRef .tc main_arg11)) b

/-- The tokens. -/
abbrev X : Arr3 8 1025 192 := V0 (Proc.devRef .tc main_arg0)
/-- The stacked weights. -/
abbrev W : Arr2 576 192 := V0 (Proc.devRef .tc main_arg1)
/-- The reference's scores. -/
abbrev v14 : Arr2 8 1024 := res_main_v14 V0
/-- The positions in the scores' order. -/
abbrev v15 : S8x1024.Idx → BitVec 32 := res_main_v15 V0
/-- The keys. -/
abbrev v22 : S8x1024.Idx → BitVec 32 := res_main_v22 V0

/-- The stacked queries, keys and values of all tokens. -/
theorem v3_apply (p : Fin 3) (b : Fin 8) (h : Fin 12) (i : Fin 1025) (e : Fin 16) :
    res_main_v3 V0 (ix5 p b h i e)
      = ∑ d, X V0 (ix3 b i d) * W V0 (ix2 ⟨p.val * 192 + h.val * 16 + e.val, by omega⟩ d) := by
  unfold res_main_v3
  clean_types
  pointwise []

/-- The reference's score is a twelfth of the specification's. -/
theorem v14_apply (b : Fin 8) (i : Fin 1024) :
    res_main_v14 V0 (ix2 b i) = Ideal.div ((argsV V0 b).s i) ((12 : ℝ) : EReal) := by
  unfold res_main_v14
  clean_types
  pointwise []
  rw [show (1094713344#32) = 0x41400000#32 from rfl, ofBits_12]
  congr 1
  simp only [v3_apply]
  unfold Args.s score
  rw [← sum_heads]
  refine Finset.sum_congr rfl fun h _ => Finset.sum_congr rfl fun e _ => ?_
  have e0 : ∀ (h : Fin 12) (e : Fin 16), (⟨(0 : Fin 3).val * 192 + h.val * 16 + e.val, by have : (0 : Fin 3).val = 0 := rfl; omega⟩ : Fin 576) = ⟨h.val * 16 + e.val, by omega⟩ := fun h e => Fin.ext (by show 0 * 192 + h.val * 16 + e.val = h.val * 16 + e.val; omega)
  have e1 : ∀ (h : Fin 12) (e : Fin 16), (⟨(1 : Fin 3).val * 192 + h.val * 16 + e.val, by have : (1 : Fin 3).val = 1 := rfl; omega⟩ : Fin 576) = ⟨192 + (h.val * 16 + e.val), by omega⟩ := fun h e => Fin.ext (by show 1 * 192 + h.val * 16 + e.val = 192 + (h.val * 16 + e.val); omega)
  rw [e0, e1]
  rfl

/-- The first sort lists the positions in the order of the scores. -/
theorem v15_apply (b : Fin 8) (k : Fin 1024) :
    res_main_v15 V0 (ix2 b k) = BitVec.ofNat 32 (sortedFrom (Rank.lt (fun i => v14 V0 (ix2 b i))) k).val := by
  refine (sort2_apply (comparator_f32_i32_d1 (F := Ideal)) (v14 V0) (iotaInDim S8x1024 32 1) b k).trans ?_
  simp only [cmp_f]
  pointwise []
  rfl

/-- The second sort gives each position's rank. -/
theorem rank_apply (b : Fin 8) (k : Fin 1024) :
    (Host.sort2 S8x1024 1 comparator_i32_i32_d1 (res_main_v15 V0) (res_main_call1_v0 V0)).2 (ix2 b k)
      = BitVec.ofNat 32 (Rank.rank (argsV V0 b).s k) := by
  refine (sort2_apply comparator_i32_i32_d1 (v15 V0) (iotaInDim S8x1024 32 1) b k).trans ?_
  simp only [cmp_i]
  have e := Rank.sortedFrom_sortedFrom (fun i => v14 V0 (ix2 b i)) (fun i => (v15 V0 (ix2 b i)).toInt)
    (fun k => by rw [show v15 V0 (ix2 b k) = _ from v15_apply V0 b k, toInt_ofNat _ (by omega)]) k
  have e2 : Rank.rank (fun i => v14 V0 (ix2 b i)) k = Rank.rank (argsV V0 b).s k :=
    Rank.rank_congr _ _ (fun i j => by simp only [v14_apply, div12_lt]) k
  rw [e2] at e
  rw [← e]
  pointwise []
  rfl

/-- The key of a position is its number, pushed past the end when the position is not kept. -/
theorem v22_apply (b : Fin 8) (k : Fin 1024) :
    (res_main_v22 V0 (ix2 b k)).toInt = Rank.keptKey (Kept (argsV V0 b).s) 1025 k := by
  unfold res_main_v22
  clean_types
  have e := rank_apply V0 b k
  generalize (Host.sort2 S8x1024 1 comparator_i32_i32_d1 (res_main_v15 V0) (res_main_call1_v0 V0)).2 = X at e ⊢
  pointwise [res_main_v19]
  have hr := Rank.rank_lt (argsV V0 b).s k
  rw [e, sgt_ofNat _ 102 (by omega) (by omega), addi_ofNat, select_bit]
  unfold Rank.keptKey
  by_cases h : Kept (argsV V0 b).s k
  · rw [if_pos h, if_pos (decide_eq_true (show 102 < Rank.rank (argsV V0 b).s k from h)), toInt_ofNat _ (by omega)]
  · rw [if_neg h, if_neg (fun q => h (show 102 < Rank.rank (argsV V0 b).s k from of_decide_eq_true q)), toInt_ofNat _ (by omega)]; simp

/-- The kept tokens' positions, in order. -/
theorem v26_apply (b : Fin 8) (k : Fin 921) :
    res_main_v26 V0 (ix3 b k 0) = BitVec.ofNat 32 (pick (argsV V0 b).s ⟨k.val, by omega⟩).val := by
  unfold res_main_v26
  clean_types
  have e := sort2_apply comparator_i32_i32_d1 (v22 V0) (iotaInDim S8x1024 32 1) b ⟨k.val, by omega⟩
  simp only [cmp_i, show ∀ i, (v22 V0 (ix2 b i)).toInt = _ from v22_apply V0 b] at e
  generalize hX : (Host.sort2 S8x1024 1 comparator_i32_i32_d1 (res_main_v22 V0) (res_main_call3_v0 V0)).2 = X at ⊢
  have e' : X (ix2 b ⟨k.val, by omega⟩) = _ := (congrFun hX _).symm.trans e
  clear hX e
  pointwise []
  rw [e']
  pointwise []
  rfl

end Cert.ReferenceIdeal.Read

end
-- ==== Proof.RefRows.lean ====
/- The reference's kept rows: its gather reads the rows of the kept tokens, and the quotient by the keep rate is the
   specification's rescaling. -/
module

public import proofs.«01_k».proof.Proof.RefSort

@[expose] public section

set_option maxRecDepth 16384

noncomputable section

namespace Cert.ReferenceIdeal.Read

open Cert.ReferenceIdeal Cert.ReferenceIdeal.Gen Cert.ReferenceIdeal.Value Idealize.ShloMosaic Cert.Base Cert.Spec

/-- The program's gather, per batch entry: row `k` of the result is the row the index array names. -/
theorem gather_apply {α : Type} (x : S8x1024x192.Idx → α) (idx : IVec S8x921x1 32) (b : Fin 8) (k : Fin 921) (d : Fin 192) :
    Host.gather gather_S8x1024x192_S8x921x1_S8x921x192_2_1_0_0_1_2_11192 x idx (ix3 b k d)
      = x (ix3 b ⟨min (idx (ix3 b k 0)).toInt.toNat 1023, by omega⟩ d) := by
  unfold Host.gather
  refine congrArg x (funext fun a => Fin.ext ?_)
  let G := gather_S8x1024x192_S8x921x1_S8x921x192_2_1_0_0_1_2_11192
  show G.start (ix3 b k d) idx a + G.batchCoord (ix3 b k d) a + G.offCoord (ix3 b k d) a = _
  match a with
  | ⟨0, h⟩ =>
    have hb : (⟨0, h⟩ : Fin S8x1024x192.rank) ∈ G.operandBatchingDims := List.mem_singleton.mpr rfl
    rw [G.start_batching _ _ _ hb, G.offCoord_eq_zero _ _ fun q => ((G.mem_sKept _).mp q).2 hb]
    unfold GatherDims.batchCoord
    rw [dif_pos hb]
    simp only [Nat.zero_add, Nat.add_zero]
    rfl
  | ⟨1, h⟩ =>
    have hm : (⟨1, h⟩ : Fin S8x1024x192.rank) ∈ G.startIndexMap := List.mem_singleton.mpr rfl
    have hc : (⟨1, h⟩ : Fin S8x1024x192.rank) ∈ G.collapsedSliceDims := List.mem_singleton.mpr rfl
    have hb : (⟨1, h⟩ : Fin S8x1024x192.rank) ∉ G.operandBatchingDims := G.sim_disjoint _ hm
    rw [G.batchCoord_eq_zero _ _ hb, G.offCoord_eq_zero _ _ fun q => ((G.mem_sKept _).mp q).1 hc]
    unfold GatherDims.start
    rw [dif_pos hm]
    have hi : G.siIdx (ix3 b k d) ⟨List.idxOf _ G.startIndexMap, List.idxOf_lt_length_iff.2 hm⟩ = ix3 b k 0 := by
      funext c
      refine Fin.ext ?_
      match c with
      | ⟨0, _⟩ => rfl
      | ⟨1, _⟩ => rfl
      | ⟨2, _⟩ => rfl
    rw [hi]
    rfl
  | ⟨2, _⟩ =>
    have hm : (2 : Fin 3) ∉ G.startIndexMap := by decide
    have hb : (2 : Fin 3) ∉ G.operandBatchingDims := by decide
    have hk : (2 : Fin 3) ∈ G.sKept := by decide
    show G.start _ _ (2 : Fin 3) + G.batchCoord _ (2 : Fin 3) + G.offCoord _ (2 : Fin 3) = d.val
    rw [G.batchCoord_eq_zero _ _ hb]
    unfold GatherDims.start GatherDims.offCoord
    rw [dif_neg hm, dif_pos hk]
    simp only [Nat.zero_add]
    rfl

variable (V0 : Valuation τ sig (Elt Ideal))

/-- The positions the gather is given: none is negative, so none is shifted. -/
theorem c4_apply (b : Fin 8) (k : Fin 921) :
    res_main_call4_v4 V0 (ix3 b k 0) = BitVec.ofNat 32 (pick (argsV V0 b).s ⟨k.val, by omega⟩).val := by
  unfold res_main_call4_v4
  clean_types
  pointwise []
  rw [v26_apply]
  generalize pick (argsV V0 b).s ⟨k.val, by omega⟩ = p
  have hp := p.isLt
  rw [show (0#32 : BitVec 32) = BitVec.ofNat 32 0 from rfl, slt_ofNat _ _ (by omega) (by omega), select_bit, if_neg (by simp)]

/-- A conjunction over one bit. -/
theorem fold_one (f : Fin 1 → BitVec 1) : Finset.univ.fold IntOp.andi (1#1) f = IntOp.andi (f 0) (1#1) := by
  rw [show (Finset.univ : Finset (Fin 1)) = {0} from rfl]
  exact Finset.fold_singleton

/-- The gathered rows, behind the test that a position is in range, which holds of a position below 1024. -/
theorem taken_apply (x : S8x1024x192.Idx → EReal) (idx : IVec S8x921x1 32) (z : EReal) (b : Fin 8) (k : Fin 921) (d : Fin 192)
    (p : Fin 1024) (h : idx (ix3 b k 0) = BitVec.ofNat 32 p.val) :
    Scalar.select (Finset.univ.fold IntOp.andi (1#1) fun e : Fin 1 =>
        IntOp.andi (IntOp.cmpi .sge (idx (ix3 b k e)) 0#32) (IntOp.cmpi .sle (idx (ix3 b k e)) 1023#32))
      (Host.gather gather_S8x1024x192_S8x921x1_S8x921x192_2_1_0_0_1_2_11192 x idx (ix3 b k d)) z
      = x (ix3 b p d) := by
  have hp := p.isLt
  have hi : (idx (ix3 b k 0)).toInt.toNat = p.val := by rw [h, toInt_ofNat _ (by omega)]; omega
  have hm : IntOp.andi (IntOp.cmpi .sge (idx (ix3 b k 0)) 0#32) (IntOp.cmpi .sle (idx (ix3 b k 0)) 1023#32) = BitVec.ofBool true := by
    rw [h, show (0#32 : BitVec 32) = BitVec.ofNat 32 0 from rfl, show (1023#32 : BitVec 32) = BitVec.ofNat 32 1023 from rfl,
      sge_ofNat _ _ (by omega) (by omega), sle_ofNat _ _ (by omega) (by omega), andi_bit]
    refine congrArg BitVec.ofBool ?_
    simp
    omega
  rw [gather_apply, fold_one, hm, show (1#1 : BitVec 1) = BitVec.ofBool true from rfl, andi_bit, select_bit]
  refine (if_pos rfl).trans (congrArg (fun q => x (ix3 b q d)) (Fin.ext ?_))
  show min (idx (ix3 b k 0)).toInt.toNat 1023 = p.val
  rw [hi]
  omega

/-- The reference's rows are the specification's kept rows, rescaled. -/
theorem v31_apply (b : Fin 8) (r : Fin 922) (d : Fin 192) : res_main_v31 V0 (ix3 b r d) = (argsV V0 b).xo r d := by
  unfold res_main_v31
  clean_types
  pointwise []
  have hk : Ideal.ofBits .f32 1063675494#32 = _ := ofBits_keep
  rw [hk, Ideal.div_coe (by norm_num)]
  refine congrArg₂ (· * ·) ?_ (by norm_num)
  unfold keptRow
  by_cases h : r.val < 1
  · rw [dif_pos h, if_pos (by omega)]
    refine congrArg _ (congrArg (fun z => ix3 b z d) (Fin.ext ?_))
    show r.val = 0
    omega
  · refine (dif_neg h).trans (Eq.trans ?_ (if_neg (show ¬ r.val = 0 by omega)).symm)
    exact (taken_apply _ _ _ b ⟨r.val - 1, by omega⟩ d _ (c4_apply V0 b ⟨r.val - 1, by omega⟩)).trans (by clean_types; pointwise []; rfl)

end Cert.ReferenceIdeal.Read

end
-- ==== Proof.Real.lean ====
/- Facts about the specification's functions that hold because some of the numbers are real: a quotient by a square root
   is a product with the reciprocal root, a layer norm with real weights is real whatever the row, and a softmax may
   subtract any real from its scores. -/
module

public import proofs.«01_k».proof.Proof.Spec
public import proofs.«01_k».proof.Proof.Base

@[expose] public section

noncomputable section

namespace Cert.Spec

open Idealize.ShloMosaic Cert.Base

/-- A number that is real: not an infinity. -/
def IsReal (x : EReal) : Prop := ∃ r : ℝ, x = (r : EReal)

/-- A real number is real. -/
theorem isReal_coe (r : ℝ) : IsReal (r : EReal) := ⟨r, rfl⟩

/-- What is neither infinity is real. -/
theorem isReal_of_ne {x : EReal} (h1 : x ≠ ⊤) (h2 : x ≠ ⊥) : IsReal x := ⟨x.toReal, (EReal.coe_toReal h1 h2).symm⟩

/-- A sum of two reals is real. -/
theorem IsReal.add {x y : EReal} : IsReal x → IsReal y → IsReal (x + y) := by
  rintro ⟨a, rfl⟩ ⟨b, rfl⟩; exact ⟨a + b, (EReal.coe_add a b).symm⟩

/-- So is a difference. -/
theorem IsReal.sub {x y : EReal} : IsReal x → IsReal y → IsReal (x - y) := by
  rintro ⟨a, rfl⟩ ⟨b, rfl⟩; exact ⟨a - b, (EReal.coe_sub a b).symm⟩

/-- So is a product. -/
theorem IsReal.mul {x y : EReal} : IsReal x → IsReal y → IsReal (x * y) := by
  rintro ⟨a, rfl⟩ ⟨b, rfl⟩; exact ⟨a * b, (EReal.coe_mul a b).symm⟩

/-- A finite sum of reals is the real sum. -/
theorem sum_coe {ι : Type} [Fintype ι] (f : ι → ℝ) : ∑ i, (f i : EReal) = ((∑ i, f i : ℝ) : EReal) := by
  classical
  refine Finset.induction_on (Finset.univ : Finset ι) (by simp) fun a s ha h => ?_
  rw [Finset.sum_insert ha, Finset.sum_insert ha, h, EReal.coe_add]

/-- A finite sum of reals is real. -/
theorem isReal_sum {ι : Type} [Fintype ι] {f : ι → EReal} (h : ∀ i, IsReal (f i)) : IsReal (∑ i, f i) := by
  choose g hg using h
  rw [funext hg, sum_coe]
  exact isReal_coe _

/-- A maximum of reals over at least one of them, started from the least number, is real. -/
theorem isReal_fold_max {n : Nat} (hn : 0 < n) {f : Fin n → EReal} (h : ∀ i, IsReal (f i)) :
    IsReal (Finset.univ.fold max ⊥ f) := by
  have hlt : ∀ i, f i < ⊤ ∧ ⊥ < f i := fun i => by
    obtain ⟨r, hr⟩ := h i
    rw [hr]
    exact ⟨EReal.coe_lt_top r, EReal.bot_lt_coe r⟩
  refine isReal_of_ne (ne_of_lt ?_) (ne_of_gt ?_)
  · exact (Finset.fold_max_lt _).2 ⟨bot_lt_top, fun i _ => (hlt i).1⟩
  · exact (Finset.lt_fold_max _).2 (Or.inr ⟨⟨0, hn⟩, Finset.mem_univ _, (hlt _).2⟩)

/-- A quotient by the root of a positive number is the product with its reciprocal root, also at infinity. -/
theorem div_sqrt (x v : EReal) (hv : 0 < v) : Ideal.div x (Ideal.sqrt v) = x * Ideal.rsqrt v := by
  induction v with
  | bot => simp at hv
  | top => simp [Ideal.div]
  | coe r =>
    have hr : 0 < r := by exact_mod_cast hv
    rw [Ideal.sqrt_coe, Ideal.rsqrt_coe, if_neg (not_lt.2 hr.le), if_neg (not_lt.2 hr.le), if_neg hr.ne',
      Ideal.div_coe (Real.sqrt_ne_zero'.2 hr), one_div]

/-- A square is not negative, also at the infinities. -/
theorem sq_nonneg' (x : EReal) : 0 ≤ x * x := by
  induction x with
  | bot => simp
  | top => simp
  | coe r => exact_mod_cast mul_self_nonneg r

/-- The printed variance offset is positive. -/
theorem cEps_pos : 0 < cEps := by
  rw [show cEps = _ from ofBits_eps]
  exact_mod_cast (by norm_num : (0 : ℝ) < 10995116 / 1099511627776)

/-- A quotient by 192 is a product with a positive real. -/
theorem div_192 (x : EReal) : Ideal.div x c192 = x * ((1 / 192 : ℝ) : EReal) := by
  rw [show c192 = _ from ofBits_192, Ideal.div_coe (by norm_num)]

/-- A variance is not negative, whatever the row. -/
theorem var_nonneg (v : Fin 192 → EReal) : 0 ≤ var v := by
  unfold var
  rw [div_192]
  exact mul_nonneg (Finset.sum_nonneg fun d _ => sq_nonneg' _) (by exact_mod_cast (by norm_num : (0 : ℝ) ≤ 1 / 192))

/-- A variance with the offset added is positive. -/
theorem var_eps_pos (v : Fin 192 → EReal) : 0 < var v + cEps := by
  rw [add_comm]
  exact EReal.add_pos_of_pos_of_nonneg cEps_pos (var_nonneg v)

/-- The layer norm, its quotient by a root written as such. -/
theorem norm_div (g b v : Fin 192 → EReal) (d : Fin 192) :
    Ideal.div (v d - mean v) (Ideal.sqrt (var v + cEps)) * g d + b d = norm g b v d := by
  rw [div_sqrt _ _ (var_eps_pos v)]
  rfl

/-- A row one of whose distances from the mean is infinite has infinite variance. -/
theorem var_top (v : Fin 192 → EReal) (d : Fin 192) (h : ¬ IsReal (v d - mean v)) : var v = ⊤ := by
  have hd : (v d - mean v) * (v d - mean v) = ⊤ := by
    generalize v d - mean v = x at h
    induction x with
    | bot => simp
    | top => simp
    | coe r => exact absurd (isReal_coe r) h
  have hs : ∑ d, (v d - mean v) * (v d - mean v) = ⊤ := by
    refine top_le_iff.1 (hd ▸ ?_)
    exact Finset.single_le_sum (f := fun d => (v d - mean v) * (v d - mean v)) (fun i _ => sq_nonneg' _) (Finset.mem_univ d)
  unfold var
  rw [hs, div_192]
  exact EReal.top_mul_coe_of_pos (by norm_num)

/-- A layer norm with real weights is real, whatever the row: with infinite variance it is the offset. -/
theorem isReal_norm {g b : Fin 192 → EReal} (hg : ∀ d, IsReal (g d)) (hb : ∀ d, IsReal (b d)) (v : Fin 192 → EReal) (d : Fin 192) :
    IsReal (norm g b v d) := by
  unfold norm
  by_cases h : ∀ i, IsReal (v i - mean v)
  · have hv : IsReal (var v) := by
      unfold var
      rw [div_192]
      exact (isReal_sum fun i => (h i).mul (h i)).mul (isReal_coe _)
    have he : IsReal (var v + cEps) := hv.add (by rw [show cEps = _ from ofBits_eps]; exact isReal_coe _)
    have hp := var_eps_pos v
    obtain ⟨r, hr⟩ := he
    rw [hr] at hp ⊢
    have hr0 : 0 < r := by exact_mod_cast hp
    rw [Ideal.rsqrt_coe, if_neg (not_lt.2 hr0.le), if_neg hr0.ne']
    exact (((h d).mul (isReal_coe _)).mul (hg d)).add (hb d)
  · obtain ⟨i, hi⟩ := not_forall.1 h
    rw [var_top v i hi, EReal.top_add_of_ne_bot (ne_of_gt (lt_trans EReal.bot_lt_zero cEps_pos)), Ideal.rsqrt_top, mul_zero, zero_mul,
      zero_add]
    exact hb d

/-- A softmax's weighted sum, each weight divided by the weights' sum and a real taken off the scores, is the quotient of
    the two sums. -/
theorem softmax_mix {n : Nat} (hn : 0 < n) {a v : Fin n → EReal} {m : EReal} (ha : ∀ t, IsReal (a t)) (hv : ∀ t, IsReal (v t))
    (hm : IsReal m) :
    ∑ t, Ideal.div (Ideal.exp (a t - m)) (∑ u, Ideal.exp (a u - m)) * v t
      = Ideal.div (∑ t, Ideal.exp (a t) * v t) (∑ t, Ideal.exp (a t)) := by
  choose α hα using ha
  choose β hβ using hv
  obtain ⟨μ, rfl⟩ := hm
  obtain rfl : a = fun t => (α t : EReal) := funext hα
  obtain rfl : v = fun t => (β t : EReal) := funext hβ
  have : Nonempty (Fin n) := ⟨⟨0, hn⟩⟩
  have h1 : (∑ t, Real.exp (α t)) ≠ 0 := (Finset.sum_pos (fun t _ => Real.exp_pos _) Finset.univ_nonempty).ne'
  have h2 : (∑ t, Real.exp (α t - μ)) ≠ 0 := (Finset.sum_pos (fun t _ => Real.exp_pos _) Finset.univ_nonempty).ne'
  simp only [← EReal.coe_sub, Ideal.exp_coe, sum_coe, Ideal.div_coe h1, Ideal.div_coe h2, ← EReal.coe_mul]
  refine congrArg _ ?_
  have hE := (Real.exp_pos μ).ne'
  simp only [Real.exp_sub, ← Finset.sum_div]
  rw [Finset.sum_mul]
  refine Finset.sum_congr rfl fun t _ => ?_
  field_simp

/-- The scale of the attention may be applied to the whole score when the entries are real. -/
theorem att_scale {n : Nat} {q : Fin n → Fin 576 → EReal} (hq : ∀ r t, IsReal (q r t)) (o : Nat) (ho : o + 16 ≤ 192) (i t : Fin n) :
    (∑ e : Fin 16, q i ⟨o + e.val, by omega⟩ * q t ⟨192 + o + e.val, by omega⟩) * cQuarter = att q o ho i t := by
  choose f hf using hq
  unfold att
  simp only [hf, show cQuarter = _ from ofBits_quarter, ← EReal.coe_mul, sum_coe]
  refine congrArg _ ?_
  rw [Finset.sum_mul]
  exact Finset.sum_congr rfl fun e _ => by ring

/-- The attention scores of real entries are real. -/
theorem isReal_att {n : Nat} {q : Fin n → Fin 576 → EReal} (hq : ∀ r t, IsReal (q r t)) (o : Nat) (ho : o + 16 ≤ 192) (i t : Fin n) :
    IsReal (att q o ho i t) :=
  isReal_sum fun _ => ((hq _ _).mul (by rw [show cQuarter = _ from ofBits_quarter]; exact isReal_coe _)).mul (hq _ _)

/-- Queries, keys and values are real when their weights are, whatever the tokens. -/
theorem isReal_qkv (A : Args) (hw : ∀ t d, IsReal (A.wqkv t d)) (hg : ∀ d, IsReal (A.g1 d)) (hb : ∀ d, IsReal (A.b1 d)) (r : Fin 922)
    (t : Fin 576) : IsReal (A.qkv r t) :=
  isReal_sum fun d => (isReal_norm hg hb _ d).mul (hw t d)

end Cert.Spec

end
-- ==== Proof.RefAttn.lean ====
/- The reference's attention is the specification's when the queries, keys and values are real: its layer norm, its stacked
   products, its softmax with the row's maximum taken off, and the projection added to the rows. -/
module

public import proofs.«01_k».proof.Proof.RefRows
public import proofs.«01_k».proof.Proof.Real

@[expose] public section

set_option maxRecDepth 16384

noncomputable section

namespace Cert.ReferenceIdeal.Read

open Cert.ReferenceIdeal Cert.ReferenceIdeal.Gen Cert.ReferenceIdeal.Value Idealize.ShloMosaic Cert.Base Cert.Spec

/-- A maximum along the last of four axes is a fold of `max`. Stated for any extents, so that no extent is unfolded. -/
theorem max_apply {n0 n1 n2 n3 : Nat} {u : Shape} (X : FVec Ideal ⟨4, ![n0, n1, n2, n3]⟩ .f32) (z : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce FloatOps.maximumf X z h hu (ix3 a b c)
      = Finset.univ.fold max (z (Shape.Idx.first hu)) fun d : Fin n3 => X (ix4 a b c d) := by
  pointwise []

/-- The exponentials of an array with a row's number, or the printed least number if that is greater, taken off. -/
theorem shift_apply (X : FVec Ideal S8x12x922x922 .f32) (Y : FVec Ideal S8x12x922 .f32) (b : Fin 8) (h : Fin 12) (r t : Fin 922) :
    Host.exp (subf X (broadcastInDim S8x12x922x922 ![0, 1, 2, 3] bcast_S8x12x922x1_S8x12x922x922_0_1_2_3
        (broadcastInDim S8x12x922x1 ![0, 1, 2] bcast_S8x12x922_S8x12x922x1_0_1_2
          (maximumf (broadcastInDim S8x12x922 ![] bcast_S_S8x12x922 (constant S_ .f32 0xFF800000#32)) Y)))) (ix4 b h r t)
      = Ideal.exp (X (ix4 b h r t) - max (Ideal.ofBits .f32 0xFF800000#32) (Y (ix3 b h r))) := by
  pointwise []

variable (V0 : Valuation τ sig (Elt Ideal))

/-- The scaled attention scores, as an array of numbers. -/
abbrev v69 : S8x12x922x922.Idx → EReal := res_main_v69 V0

/-- The rows' means. -/
theorem v35_apply (b : Fin 8) (r : Fin 922) : res_main_v35 V0 (ix3 b r 0) = mean ((argsV V0 b).xo r) := by
  unfold res_main_v35
  clean_types
  pointwise []
  simp only [v31_apply]
  rfl

/-- The rows' distances from their means. -/
theorem v37_apply (b : Fin 8) (r : Fin 922) (d : Fin 192) :
    res_main_v37 V0 (ix3 b r d) = (argsV V0 b).xo r d - mean ((argsV V0 b).xo r) := by
  unfold res_main_v37
  clean_types
  pointwise []
  simp only [v31_apply, v35_apply]

/-- The stacked queries, keys and values, by heads. -/
theorem v59_apply (p : Fin 3) (b : Fin 8) (h : Fin 12) (r : Fin 922) (e : Fin 16) :
    res_main_v59 V0 (ix5 p b h r e) = (argsV V0 b).qkv r ⟨p.val * 192 + h.val * 16 + e.val, by omega⟩ := by
  unfold res_main_v59
  clean_types
  pointwise []
  simp only [v31_apply, v35_apply, v37_apply]
  unfold Args.qkv
  refine Finset.sum_congr rfl fun d _ => ?_
  rw [← norm_div]
  rfl

variable (hq : ∀ b r t, IsReal ((argsV V0 b).qkv r t))
include hq

/-- The scaled scores of a head. -/
theorem v69_apply (b : Fin 8) (h : Fin 12) (r t : Fin 922) :
    v69 V0 (ix4 b h r t) = att (argsV V0 b).qkv (16 * h.val) (by omega) r t := by
  rw [← att_scale (hq b)]
  show res_main_v69 V0 (ix4 b h r t) = _
  unfold res_main_v69
  clean_types
  pointwise []
  simp only [v59_apply]
  refine congrArg (· * _) (Finset.sum_congr rfl fun e _ => congrArg₂ (fun i j => (argsV V0 b).qkv r i * (argsV V0 b).qkv t j)
    (Fin.ext ?_) (Fin.ext ?_))
  · show 0 * 192 + h.val * 16 + e.val = 16 * h.val + e.val
    omega
  · show 1 * 192 + h.val * 16 + e.val = 192 + 16 * h.val + e.val
    omega

/-- The exponentials of the scores, a real number of the row's taken off. -/
theorem v76_apply (b : Fin 8) (h : Fin 12) (r : Fin 922) :
    ∃ m : EReal, IsReal m ∧ ∀ t, res_main_v76 V0 (ix4 b h r t) = Ideal.exp (att (argsV V0 b).qkv (16 * h.val) (by omega) r t - m) := by
  have e := max_apply (res_main_v69 V0) (constant S_ .f32 0xFF800000#32) reducesTo_S8x12x922x922_S8x12x922_d3 h_S_ b h r
  generalize hR : Host.reduce FloatOps.maximumf (res_main_v69 V0) (constant S_ .f32 0xFF800000#32)
    reducesTo_S8x12x922x922_S8x12x922_d3 h_S_ = R at e
  have e2 := shift_apply (res_main_v69 V0) R b h r
  have e3 : R (ix3 b h r) = Finset.univ.fold max (Ideal.ofBits .f32 0xFF800000#32) fun t : Fin 922 => v69 V0 (ix4 b h r t) := e
  have hb : Ideal.ofBits .f32 0xFF800000#32 = ⊥ := by simp [Ideal.ofBits, Ideal.ieee]
  have hm : IsReal (R (ix3 b h r)) := by
    rw [e3, hb]
    refine isReal_fold_max (by norm_num) fun t => ?_
    rw [v69_apply V0 hq]
    exact isReal_att (hq b) _ _ _ _
  simp only [hb, max_eq_right bot_le] at e2
  have e4 : ∀ t, res_main_v76 V0 (ix4 b h r t) = Ideal.exp (v69 V0 (ix4 b h r t) - R (ix3 b h r)) := by
    rw [← hR] at e2 ⊢
    exact e2
  refine ⟨R (ix3 b h r), hm, fun t => (e4 t).trans ?_⟩
  rw [v69_apply V0 hq]

/-- The rows after the attention. -/
theorem v89_apply (b : Fin 8) (r : Fin 922) (d : Fin 192) : res_main_v89 V0 (ix3 b r d) = (argsV V0 b).x1 r d := by
  unfold res_main_v89
  clean_types
  pointwise []
  rw [v31_apply]
  unfold Args.x1
  refine congrArg ((argsV V0 b).xo r d + ·) (congrArg (· + (argsV V0 b).bproj d) (Finset.sum_congr rfl fun c _ =>
    congrArg (· * (argsV V0 b).wproj d c) ?_))
  obtain ⟨m, hm, e⟩ := v76_apply V0 hq b ⟨c.val / 16, by omega⟩ r
  simp only [e, v59_apply]
  refine Eq.trans ?_ (softmax_mix (by norm_num) (fun t => isReal_att (hq b) _ (start_le c) r t)
    (fun t => hq b t ⟨384 + c.val, by omega⟩) hm)
  refine Finset.sum_congr rfl fun t _ => congrArg (_ * (argsV V0 b).qkv t ·) (Fin.ext ?_)
  show 2 * 192 + c.val / 16 * 16 + c.val % 16 = 384 + c.val
  omega

end Cert.ReferenceIdeal.Read

end
-- ==== Proof.RefMlp.lean ====
/- The reference's second half and its result: the second layer norm, the perceptron with its nonlinearity written by the
   complementary error function, and the whole array, when the queries, keys and values are real. -/
module

public import proofs.«01_k».proof.Proof.RefAttn
public import Idealize.ShloMosaic.PureOps.Ideal.Laws

@[expose] public section

set_option maxRecDepth 16384

noncomputable section

namespace Cert.ReferenceIdeal.Read

open Cert.ReferenceIdeal Cert.ReferenceIdeal.Gen Cert.ReferenceIdeal.Value Idealize.ShloMosaic Cert.Base Cert.Spec

/-- The unit in its error-function form is the one written by the complementary error function at the negated argument. -/
theorem gelu_erfc (y : EReal) : cHalf * y * Ideal.erfc (-y * cRootHalf) = gelu y := by
  rw [EReal.neg_mul, Ideal.erfc_neg]
  rfl

/-- The program's last steps: the rows `x` and the perceptron's output from its hidden layer `y`. -/
def result (x : FVec Ideal S8x922x192 .f32) (y : FVec Ideal S8x922x768 .f32) (w : FVec Ideal S192x768 .f32) (c : FVec Ideal S192 .f32) :
    FVec Ideal S8x922x192 .f32 :=
  addf x (addf (Host.dotGeneral dot_S8x922x768_S768x192_S8x922x192_2_0_01_1_n_n none
      (mulf (mulf (broadcastInDim S8x922x768 ![] bcast_S_S8x922x768 (constant S_ .f32 0x3F000000#32)) y)
        (Host.erfc (mulf (Host.negf y) (broadcastInDim S8x922x768 ![] bcast_S_S8x922x768 (constant S_ .f32 0x3F3504F3#32)))))
      (transpose S768x192 [1, 0] w transposes_S192x768_S768x192_1_0))
    (broadcastInDim S8x922x192 ![0, 1, 2] bcast_S1x1x192_S8x922x192_0_1_2 (broadcastInDim S1x1x192 ![2] bcast_S192_S1x1x192_2 c)))

/-- Those steps element by element. -/
theorem result_apply (x : FVec Ideal S8x922x192 .f32) (y : FVec Ideal S8x922x768 .f32) (w : FVec Ideal S192x768 .f32)
    (c : FVec Ideal S192 .f32) (b : Fin 8) (r : Fin 922) (d : Fin 192) :
    result x y w c (ix3 b r d) = x (ix3 b r d)
      + (∑ k : Fin 768, cHalf * y (ix3 b r k) * Ideal.erfc (-y (ix3 b r k) * cRootHalf) * w (ix2 d k) + c (ix1 d)) := by
  pointwise [result]

variable (V0 : Valuation τ sig (Elt Ideal)) (hq : ∀ b r t, IsReal ((argsV V0 b).qkv r t))
include hq

/-- The rows' means after the attention. -/
theorem v93_apply (b : Fin 8) (r : Fin 922) : res_main_v93 V0 (ix3 b r 0) = mean ((argsV V0 b).x1 r) := by
  unfold res_main_v93
  clean_types
  pointwise []
  simp only [v89_apply V0 hq]
  rfl

/-- Their distances from their means. -/
theorem v95_apply (b : Fin 8) (r : Fin 922) (d : Fin 192) :
    res_main_v95 V0 (ix3 b r d) = (argsV V0 b).x1 r d - mean ((argsV V0 b).x1 r) := by
  unfold res_main_v95
  clean_types
  pointwise []
  simp only [v89_apply V0 hq, v93_apply V0 hq]

/-- The hidden layer. -/
theorem v118_apply (b : Fin 8) (r : Fin 922) (k : Fin 768) : res_main_v118 V0 (ix3 b r k) = (argsV V0 b).hid r k := by
  unfold res_main_v118
  clean_types
  pointwise []
  simp only [v89_apply V0 hq, v93_apply V0 hq, v95_apply V0 hq]
  unfold Args.hid
  refine congrArg (· + (argsV V0 b).bfc1 k) (Finset.sum_congr rfl fun d _ => ?_)
  rw [← norm_div]
  rfl

/-- The result array. -/
theorem result_eq : result (res_main_v89 V0) (res_main_v118 V0) (V0 (Proc.devRef .tc main_arg10)) (V0 (Proc.devRef .tc main_arg11))
    = whole (V0 (Proc.devRef .tc main_arg0)) (V0 (Proc.devRef .tc main_arg1)) (V0 (Proc.devRef .tc main_arg2))
        (V0 (Proc.devRef .tc main_arg3)) (V0 (Proc.devRef .tc main_arg4)) (V0 (Proc.devRef .tc main_arg5))
        (V0 (Proc.devRef .tc main_arg6)) (V0 (Proc.devRef .tc main_arg7)) (V0 (Proc.devRef .tc main_arg8))
        (V0 (Proc.devRef .tc main_arg9)) (V0 (Proc.devRef .tc main_arg10)) (V0 (Proc.devRef .tc main_arg11)) := by
  funext j
  obtain ⟨b, hb⟩ : ∃ b : Fin 8, b = j 0 := ⟨_, rfl⟩
  obtain ⟨r, hr⟩ : ∃ r : Fin 922, r = j 1 := ⟨_, rfl⟩
  obtain ⟨d, hd⟩ : ∃ d : Fin 192, d = j 2 := ⟨_, rfl⟩
  obtain rfl : j = (ix3 b r d : S8x922x192.Idx) := by
    funext a
    match a with
    | ⟨0, _⟩ => exact hb.symm
    | ⟨1, _⟩ => exact hr.symm
    | ⟨2, _⟩ => exact hd.symm
  rw [result_apply]
  simp only [v89_apply V0 hq, v118_apply V0 hq, gelu_erfc]
  rfl

end Cert.ReferenceIdeal.Read

end
-- ==== Proof.Pre.lean ====
/- What the precondition says: every entry of the stacked weights and of the first layer norm's two vectors is real. -/
module

public import proofs.«01_k».proof.Pre_weights_finite
public import proofs.«01_k».proof.Proof.Real
public import proofs.«01_k».proof.Proof.Whole
public import Idealize.ShloMosaic.Lib.Pointwise

@[expose] public section

set_option maxRecDepth 16384

noncomputable section

namespace Cert.Pre_weights_finite

open Idealize.ShloMosaic Cert.Spec

/-- A conjunction of two bits that is set has both set. -/
theorem andi_eq_one (a b : BitVec 1) (h : IntOp.andi a b = 1#1) : a = 1#1 ∧ b = 1#1 := by
  revert a b
  decide

/-- A conjunction of many bits that is set has every one set. -/
theorem fold_andi {ι : Type} (s : Finset ι) (f : ι → BitVec 1) (h : s.fold IntOp.andi (1#1) f = 1#1) : ∀ i ∈ s, f i = 1#1 := by
  classical
  revert h
  refine Finset.induction_on s (fun _ i hi => absurd hi (Finset.notMem_empty i)) fun a s ha ih h i hi => ?_
  rw [Finset.fold_insert ha] at h
  obtain ⟨h1, h2⟩ := andi_eq_one _ _ h
  rcases Finset.mem_insert.1 hi with rfl | hi
  · exact h1
  · exact ih h2 i hi

/-- An array of bits whose conjunction over every axis is set has every bit set. -/
theorem reduce_andi {s t u : Shape} {axes : List (Fin s.rank)} (x : IVec s 1) (z : IVec u 1) (h : s.ReducesTo axes t) (hu : 0 < u.numel)
    (j : t.Idx) (hj : ∀ k : t.Idx, k = j) (hz : ∀ k, z k = 1#1) (e : Host.reduce IntOp.andi x z h hu j = 1#1) (i : s.Idx) : x i = 1#1 := by
  rw [Host.reduce_eq_fold, hz] at e
  exact fold_andi _ _ e i (Finset.mem_filter.2 ⟨Finset.mem_univ _, hj _⟩)

/-- A number whose absolute value is less than the printed infinity is real. -/
theorem isReal_of_abs (x : EReal) (h : FloatOps.cmpf (F := Ideal) (φ := .f32) .olt (FloatOps.hostAbsf (F := Ideal) (φ := .f32) x)
    (Ideal.ofBits .f32 0x7F800000#32) = 1#1) : IsReal x := by
  have ht : Ideal.ofBits .f32 0x7F800000#32 = ⊤ := by simp [Ideal.ofBits, Ideal.ieee]
  rw [ht] at h
  replace h : BitVec.ofBool (decide (max x (-x) < ⊤)) = 1#1 := h
  induction x with
  | bot => simp at h
  | top => simp at h
  | coe r => exact isReal_coe r

variable [Facts]

/-- The precondition, read. -/
theorem reals (x : Arr3 8 1025 192) (wqkv : Arr2 576 192) (wproj : Arr2 192 192) (bproj g1 b1 g2 b2 : Arr1 192) (wfc1 : Arr2 768 192)
    (bfc1 : Arr1 768) (wfc2 : Arr2 192 768) (bfc2 : Arr1 192)
    (h : fn (F := Ideal) x wqkv wproj bproj g1 b1 g2 b2 wfc1 bfc1 wfc2 bfc2 = fun _ => 1#1) :
    (∀ i, IsReal (wqkv i)) ∧ (∀ i, IsReal (g1 i)) ∧ ∀ i, IsReal (b1 i) := by
  have e := congrFun h fun a => a.elim0
  obtain ⟨e, e3⟩ := andi_eq_one _ _ e
  obtain ⟨e1, e2⟩ := andi_eq_one _ _ e
  have hj : ∀ k : S_.Idx, k = fun a => a.elim0 := fun k => funext fun a => a.elim0
  have r1 := reduce_andi _ _ _ _ _ hj (fun _ => rfl) e1
  have r2 := reduce_andi _ _ _ _ _ hj (fun _ => rfl) e2
  have r3 := reduce_andi _ _ _ _ _ hj (fun _ => rfl) e3
  refine ⟨fun i => isReal_of_abs _ ?_, fun i => isReal_of_abs _ ?_, fun i => isReal_of_abs _ ?_⟩
  · exact r1 i
  · exact r2 i
  · exact r3 i

end Cert.Pre_weights_finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelArray
public import proofs.«01_k».proof.Proof.RefMlp
public import proofs.«01_k».proof.Proof.Pre
public import Idealize.ShloMosaic.Adequacy
public import Idealize.ShloMosaic.Init

@[expose] public section

noncomputable section

namespace Cert.Proof

open Idealize.ShloMosaic Idealize.SL.Sem Cert.Kernel

/-- The kernel as written runs to completion, changes no argument and leaves every semaphore at zero. -/
theorem frame_p : Cert.quiescent_Kernel := fun m ρ _ => Cert.Kernel.Gen.frame m ρ

/-- So does the kernel read over the extended reals. -/
theorem frame_pi : Cert.quiescent_KernelIdeal := fun m ρ _ => Cert.KernelIdeal.Gen.frame m ρ

/-- So does the reference read over the extended reals. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The one rounded literal that is named stands for the value its name is given. -/
theorem preserves : Cert.preserves_Kernel_KernelIdeal :=
  IdealRules.named_const.statement Cert.KernelIdeal.κ "inv_keep" .f32 0x3F8E38E4#32 ((8388608 / 7549747 : ℝ) : EReal) rfl

/-- The witness of the precondition's stated facts. -/
theorem preFacts : Cert.Pre_weights_finite.Facts := by
  constructor <;> decide +kernel

/-- From memories that agree on the arguments, finite where the precondition says so, the kernel and the reference end
    with the same result and unchanged arguments. -/
theorem algebraic : Cert.algebraic_KernelIdeal_ReferenceIdeal_pre_weights_finite (hPre_weights_finite := preFacts) := by
  intro m g m' g' hpre hagree
  refine ⟨_, (θ_run Cert.KernelIdeal.defs _ _).mono (fun r h c => ⟨(h c).1.trans (Cert.KernelIdeal.Read.array_eq m c), (h c).2⟩)
      (Cert.KernelIdeal.Value.run_blocks m g),
    (θ_run Cert.ReferenceIdeal.defs _ _).mono (fun r h c => ⟨(h c).1.trans ?_, (h c).2⟩) (Cert.ReferenceIdeal.Value.run (F := Ideal) m' g')⟩
  obtain ⟨e0, e1, e2, e3, e4, e5, e6, e7, e8, e9, e10, e11⟩ := hagree c
  have hp := @Cert.Pre_weights_finite.reals preFacts _ _ _ _ _ _ _ _ _ _ _ _ (hpre c)
  rw [← e1, ← e4, ← e5] at hp
  rw [← e0, ← e1, ← e2, ← e3, ← e4, ← e5, ← e6, ← e7, ← e8, ← e9, ← e10, ← e11]
  exact Cert.ReferenceIdeal.Read.result_eq (StableHlo.launchContents m' c) fun b r t =>
    Cert.Spec.isReal_qkv _ (fun t d => hp.1 _) (fun d => hp.2.1 _) (fun d => hp.2.2 _) r t

/-- The claim. -/
theorem claim : Cert.Claim :=
  ⟨Cert.Kernel.Gen.facts, Cert.KernelIdeal.Gen.facts, Cert.ReferenceIdeal.Gen.facts, preFacts,
    frame_p, frame_pi, fun m ρ _ => Cert.KernelIdeal.Gen.frame m ρ, frame_ri,
    fun m ρ _ => frame_ri m ρ trivial, preserves, algebraic⟩

end Cert.Proof

end
